-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S896x1024 : Shape := ⟨2, ![896, 1024]⟩
abbrev S36 : Shape := ⟨1, ![36]⟩
abbrev S_ : Shape := ⟨0, ![]⟩
abbrev S384x512 : Shape := ⟨2, ![384, 512]⟩
abbrev S384x1024 : Shape := ⟨2, ![384, 1024]⟩
abbrev S1 : Shape := ⟨1, ![1]⟩
abbrev S192x512 : Shape := ⟨2, ![192, 512]⟩
abbrev S256x512 : Shape := ⟨2, ![256, 512]⟩
abbrev S256x1024 : Shape := ⟨2, ![256, 1024]⟩
abbrev S128x512 : Shape := ⟨2, ![128, 512]⟩
abbrev S96x512 : Shape := ⟨2, ![96, 512]⟩
abbrev S64x512 : Shape := ⟨2, ![64, 512]⟩
abbrev S48x512 : Shape := ⟨2, ![48, 512]⟩
abbrev S32x512 : Shape := ⟨2, ![32, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S896x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v68 : BitVec 32 := Scalar.xori v2 c3_i32
  let c1_i32_30 : BitVec 32 := 1#32
  let v69 : BitVec 32 := Scalar.muli v68 c1_i32_30
  let v70 : BitVec 32 := Scalar.addi c0_i32_31 v69
  v70.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v71 : BitVec 32 := Scalar.xori v2 c1_i32_32
  let c1_i32_34 : BitVec 32 := 1#32
  let v72 : BitVec 32 := Scalar.muli v71 c1_i32_34
  let v73 : BitVec 32 := Scalar.addi c0_i32_35 v72
  v73.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_36 : BitVec 32 := 4#32
  let v74 : BitVec 32 := Scalar.xori v2 c4_i32_36
  let c1_i32_38 : BitVec 32 := 1#32
  let v75 : BitVec 32 := Scalar.muli v74 c1_i32_38
  let v76 : BitVec 32 := Scalar.addi c0_i32_39 v75
  v76.toNat
def k0_off1 (d0 : Dev nD) : Fin 2 → Nat :=
  let c0_i32_43 : BitVec 32 := 0#32
  let c1_i32_41 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v80 : BitVec 32 := Scalar.subi c1_i32_41 v39
  let c192_i32_42 : BitVec 32 := 192#32
  let v81 : BitVec 32 := Scalar.muli v80 c192_i32_42
  let v82 : BitVec 32 := Scalar.addi c0_i32_43 v81
  let c0_i32_115 : BitVec 32 := 0#32
  ![v82.toNat, 0]
def k0_dev4 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_108 : BitVec 32 := 3#32
  let v179 : BitVec 32 := Scalar.xori v2 c3_i32_108
  let c1_i32_111 : BitVec 32 := 1#32
  let v180 : BitVec 32 := Scalar.muli v179 c1_i32_111
  let v181 : BitVec 32 := Scalar.addi c0_i32_112 v180
  v181.toNat
def k0_off2 (d0 : Dev nD) : Fin 2 → Nat :=
  let c0_i32_69 : BitVec 32 := 0#32
  let c1_i32_67 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v125 : BitVec 32 := Scalar.subi c1_i32_67 v39
  let c192_i32_68 : BitVec 32 := 192#32
  let v126 : BitVec 32 := Scalar.muli v125 c192_i32_68
  let v127 : BitVec 32 := Scalar.addi c0_i32_69 v126
  let c512_i32_121 : BitVec 32 := 512#32
  ![v127.toNat, 512]
def k0_dev5 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_116 : BitVec 32 := 3#32
  let v188 : BitVec 32 := Scalar.xori v2 c3_i32_116
  let c1_i32_118 : BitVec 32 := 1#32
  let v189 : BitVec 32 := Scalar.muli v188 c1_i32_118
  let v190 : BitVec 32 := Scalar.addi c0_i32_119 v189
  v190.toNat
def k0_off3 (d0 : Dev nD) : Fin 2 → Nat :=
  let c384_i32_51 : BitVec 32 := 384#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let v95 : BitVec 32 := Scalar.subi c1_i32_49 v77
  let c192_i32_50 : BitVec 32 := 192#32
  let v96 : BitVec 32 := Scalar.muli v95 c192_i32_50
  let v97 : BitVec 32 := Scalar.addi c384_i32_51 v96
  let c0_i32_133 : BitVec 32 := 0#32
  ![v97.toNat, 0]
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_128 : BitVec 32 := 1#32
  let v203 : BitVec 32 := Scalar.xori v2 c1_i32_128
  let c1_i32_130 : BitVec 32 := 1#32
  let v204 : BitVec 32 := Scalar.muli v203 c1_i32_130
  let v205 : BitVec 32 := Scalar.addi c0_i32_131 v204
  v205.toNat
def k0_off4 (d0 : Dev nD) : Fin 2 → Nat :=
  let c384_i32_80 : BitVec 32 := 384#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let v140 : BitVec 32 := Scalar.subi c1_i32_78 v77
  let c192_i32_79 : BitVec 32 := 192#32
  let v141 : BitVec 32 := Scalar.muli v140 c192_i32_79
  let v142 : BitVec 32 := Scalar.addi c384_i32_80 v141
  let c512_i32_140 : BitVec 32 := 512#32
  ![v142.toNat, 512]
def k0_dev7 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_134 : BitVec 32 := 1#32
  let v212 : BitVec 32 := Scalar.xori v2 c1_i32_134
  let c1_i32_136 : BitVec 32 := 1#32
  let v213 : BitVec 32 := Scalar.muli v212 c1_i32_136
  let v214 : BitVec 32 := Scalar.addi c0_i32_137 v213
  v214.toNat
def k0_off5 (d0 : Dev nD) : Fin 2 → Nat :=
  let c768_i32_60 : BitVec 32 := 768#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v110 : BitVec 32 := Scalar.subi c1_i32_58 v66
  let c128_i32_59 : BitVec 32 := 128#32
  let v111 : BitVec 32 := Scalar.muli v110 c128_i32_59
  let v112 : BitVec 32 := Scalar.addi c768_i32_60 v111
  let c0_i32_152 : BitVec 32 := 0#32
  ![v112.toNat, 0]
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_147 : BitVec 32 := 4#32
  let v227 : BitVec 32 := Scalar.xori v2 c4_i32_147
  let c1_i32_149 : BitVec 32 := 1#32
  let v228 : BitVec 32 := Scalar.muli v227 c1_i32_149
  let v229 : BitVec 32 := Scalar.addi c0_i32_150 v228
  v229.toNat
def k0_off6 (d0 : Dev nD) : Fin 2 → Nat :=
  let c768_i32_91 : BitVec 32 := 768#32
  let c1_i32_89 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v155 : BitVec 32 := Scalar.subi c1_i32_89 v66
  let c128_i32_90 : BitVec 32 := 128#32
  let v156 : BitVec 32 := Scalar.muli v155 c128_i32_90
  let v157 : BitVec 32 := Scalar.addi c768_i32_91 v156
  let c512_i32_159 : BitVec 32 := 512#32
  ![v157.toNat, 512]
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_153 : BitVec 32 := 4#32
  let v236 : BitVec 32 := Scalar.xori v2 c4_i32_153
  let c1_i32_155 : BitVec 32 := 1#32
  let v237 : BitVec 32 := Scalar.muli v236 c1_i32_155
  let v238 : BitVec 32 := Scalar.addi c0_i32_156 v237
  v238.toNat
def k0_off7 (d0 : Dev nD) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32 : BitVec 32 := 192#32
  let v78 : BitVec 32 := Scalar.muli v39 c192_i32
  let v79 : BitVec 32 := Scalar.addi c0_i32_40 v78
  let v255 : Index := Scalar.indexCast v79
  let c0_173 : Index := 0#32
  ![v255.toNat, 0]
def k0_off8 (d0 : Dev nD) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32 : BitVec 32 := 192#32
  let v78 : BitVec 32 := Scalar.muli v39 c192_i32
  let v79 : BitVec 32 := Scalar.addi c0_i32_40 v78
  let c1_i32_44 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v85 : BitVec 32 := Scalar.subi c1_i32_44 v12
  let c96_i32_45 : BitVec 32 := 96#32
  let v86 : BitVec 32 := Scalar.muli v85 c96_i32_45
  let v87 : BitVec 32 := Scalar.addi v79 v86
  let c0_i32_184 : BitVec 32 := 0#32
  ![v87.toNat, 0]
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_177 : BitVec 32 := 1#32
  let v262 : BitVec 32 := Scalar.xori v2 c1_i32_177
  let c1_i32_180 : BitVec 32 := 1#32
  let v263 : BitVec 32 := Scalar.muli v262 c1_i32_180
  let v264 : BitVec 32 := Scalar.addi c0_i32_181 v263
  v264.toNat
def k0_off9 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_48 : BitVec 32 := 192#32
  let v93 : BitVec 32 := Scalar.muli v77 c192_i32_48
  let v94 : BitVec 32 := Scalar.addi c384_i32 v93
  let v281 : Index := Scalar.indexCast v94
  let c0_198 : Index := 0#32
  ![v281.toNat, 0]
def k0_off10 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_48 : BitVec 32 := 192#32
  let v93 : BitVec 32 := Scalar.muli v77 c192_i32_48
  let v94 : BitVec 32 := Scalar.addi c384_i32 v93
  let c1_i32_53 : BitVec 32 := 1#32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v100 : BitVec 32 := Scalar.subi c1_i32_53 v66
  let c96_i32_54 : BitVec 32 := 96#32
  let v101 : BitVec 32 := Scalar.muli v100 c96_i32_54
  let v102 : BitVec 32 := Scalar.addi v94 v101
  let c0_i32_206 : BitVec 32 := 0#32
  ![v102.toNat, 0]
def k0_dev11 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_201 : BitVec 32 := 4#32
  let v288 : BitVec 32 := Scalar.xori v2 c4_i32_201
  let c1_i32_203 : BitVec 32 := 1#32
  let v289 : BitVec 32 := Scalar.muli v288 c1_i32_203
  let v290 : BitVec 32 := Scalar.addi c0_i32_204 v289
  v290.toNat
def k0_off11 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32 : BitVec 32 := 128#32
  let v108 : BitVec 32 := Scalar.muli v66 c128_i32
  let v109 : BitVec 32 := Scalar.addi c768_i32 v108
  let v307 : Index := Scalar.indexCast v109
  let c0_220 : Index := 0#32
  ![v307.toNat, 0]
def k0_off12 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32 : BitVec 32 := 128#32
  let v108 : BitVec 32 := Scalar.muli v66 c128_i32
  let v109 : BitVec 32 := Scalar.addi c768_i32 v108
  let c1_i32_61 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v115 : BitVec 32 := Scalar.subi c1_i32_61 v39
  let c64_i32_62 : BitVec 32 := 64#32
  let v116 : BitVec 32 := Scalar.muli v115 c64_i32_62
  let v117 : BitVec 32 := Scalar.addi v109 v116
  let c0_i32_228 : BitVec 32 := 0#32
  ![v117.toNat, 0]
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_223 : BitVec 32 := 3#32
  let v314 : BitVec 32 := Scalar.xori v2 c3_i32_223
  let c1_i32_225 : BitVec 32 := 1#32
  let v315 : BitVec 32 := Scalar.muli v314 c1_i32_225
  let v316 : BitVec 32 := Scalar.addi c0_i32_226 v315
  v316.toNat
def k0_off13 (d0 : Dev nD) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32_65 : BitVec 32 := 192#32
  let v123 : BitVec 32 := Scalar.muli v39 c192_i32_65
  let v124 : BitVec 32 := Scalar.addi c0_i32_66 v123
  let v333 : Index := Scalar.indexCast v124
  let c512 : Index := 512#32
  ![v333.toNat, 512]
def k0_off14 (d0 : Dev nD) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32_65 : BitVec 32 := 192#32
  let v123 : BitVec 32 := Scalar.muli v39 c192_i32_65
  let v124 : BitVec 32 := Scalar.addi c0_i32_66 v123
  let c1_i32_71 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v130 : BitVec 32 := Scalar.subi c1_i32_71 v12
  let c96_i32_72 : BitVec 32 := 96#32
  let v131 : BitVec 32 := Scalar.muli v130 c96_i32_72
  let v132 : BitVec 32 := Scalar.addi v124 v131
  let c512_i32_251 : BitVec 32 := 512#32
  ![v132.toNat, 512]
def k0_dev13 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_245 : BitVec 32 := 1#32
  let v340 : BitVec 32 := Scalar.xori v2 c1_i32_245
  let c1_i32_247 : BitVec 32 := 1#32
  let v341 : BitVec 32 := Scalar.muli v340 c1_i32_247
  let v342 : BitVec 32 := Scalar.addi c0_i32_248 v341
  v342.toNat
def k0_off15 (d0 : Dev nD) : Fin 2 → Nat :=
  let c384_i32_77 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_76 : BitVec 32 := 192#32
  let v138 : BitVec 32 := Scalar.muli v77 c192_i32_76
  let v139 : BitVec 32 := Scalar.addi c384_i32_77 v138
  let v359 : Index := Scalar.indexCast v139
  let c512_265 : Index := 512#32
  ![v359.toNat, 512]
def k0_off16 (d0 : Dev nD) : Fin 2 → Nat :=
  let c384_i32_77 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_76 : BitVec 32 := 192#32
  let v138 : BitVec 32 := Scalar.muli v77 c192_i32_76
  let v139 : BitVec 32 := Scalar.addi c384_i32_77 v138
  let c1_i32_82 : BitVec 32 := 1#32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v145 : BitVec 32 := Scalar.subi c1_i32_82 v66
  let c96_i32_83 : BitVec 32 := 96#32
  let v146 : BitVec 32 := Scalar.muli v145 c96_i32_83
  let v147 : BitVec 32 := Scalar.addi v139 v146
  let c512_i32_275 : BitVec 32 := 512#32
  ![v147.toNat, 512]
def k0_dev14 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_269 : BitVec 32 := 4#32
  let v366 : BitVec 32 := Scalar.xori v2 c4_i32_269
  let c1_i32_271 : BitVec 32 := 1#32
  let v367 : BitVec 32 := Scalar.muli v366 c1_i32_271
  let v368 : BitVec 32 := Scalar.addi c0_i32_272 v367
  v368.toNat
def k0_off17 (d0 : Dev nD) : Fin 2 → Nat :=
  let c768_i32_88 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32_87 : BitVec 32 := 128#32
  let v153 : BitVec 32 := Scalar.muli v66 c128_i32_87
  let v154 : BitVec 32 := Scalar.addi c768_i32_88 v153
  let v385 : Index := Scalar.indexCast v154
  let c512_289 : Index := 512#32
  ![v385.toNat, 512]
def k0_off18 (d0 : Dev nD) : Fin 2 → Nat :=
  let c768_i32_88 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32_87 : BitVec 32 := 128#32
  let v153 : BitVec 32 := Scalar.muli v66 c128_i32_87
  let v154 : BitVec 32 := Scalar.addi c768_i32_88 v153
  let c1_i32_93 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v160 : BitVec 32 := Scalar.subi c1_i32_93 v39
  let c64_i32_94 : BitVec 32 := 64#32
  let v161 : BitVec 32 := Scalar.muli v160 c64_i32_94
  let v162 : BitVec 32 := Scalar.addi v154 v161
  let c512_i32_299 : BitVec 32 := 512#32
  ![v162.toNat, 512]
def k0_dev15 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_293 : BitVec 32 := 3#32
  let v392 : BitVec 32 := Scalar.xori v2 c3_i32_293
  let c1_i32_295 : BitVec 32 := 1#32
  let v393 : BitVec 32 := Scalar.muli v392 c1_i32_295
  let v394 : BitVec 32 := Scalar.addi c0_i32_296 v393
  v394.toNat
def k0_off19 (d0 : Dev nD) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32 : BitVec 32 := 192#32
  let v78 : BitVec 32 := Scalar.muli v39 c192_i32
  let v79 : BitVec 32 := Scalar.addi c0_i32_40 v78
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32 : BitVec 32 := 96#32
  let v83 : BitVec 32 := Scalar.muli v12 c96_i32
  let v84 : BitVec 32 := Scalar.addi v79 v83
  let v411 : Index := Scalar.indexCast v84
  let c0_313 : Index := 0#32
  ![v411.toNat, 0]
def k0_off20 (d0 : Dev nD) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32 : BitVec 32 := 192#32
  let v78 : BitVec 32 := Scalar.muli v39 c192_i32
  let v79 : BitVec 32 := Scalar.addi c0_i32_40 v78
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32 : BitVec 32 := 96#32
  let v83 : BitVec 32 := Scalar.muli v12 c96_i32
  let v84 : BitVec 32 := Scalar.addi v79 v83
  let c1_i32_46 : BitVec 32 := 1#32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v90 : BitVec 32 := Scalar.subi c1_i32_46 v66
  let c48_i32_47 : BitVec 32 := 48#32
  let v91 : BitVec 32 := Scalar.muli v90 c48_i32_47
  let v92 : BitVec 32 := Scalar.addi v84 v91
  let c0_i32_322 : BitVec 32 := 0#32
  ![v92.toNat, 0]
def k0_dev16 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_316 : BitVec 32 := 4#32
  let v418 : BitVec 32 := Scalar.xori v2 c4_i32_316
  let c1_i32_319 : BitVec 32 := 1#32
  let v419 : BitVec 32 := Scalar.muli v418 c1_i32_319
  let v420 : BitVec 32 := Scalar.addi c0_i32_320 v419
  v420.toNat
def k0_off21 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_48 : BitVec 32 := 192#32
  let v93 : BitVec 32 := Scalar.muli v77 c192_i32_48
  let v94 : BitVec 32 := Scalar.addi c384_i32 v93
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_52 : BitVec 32 := 96#32
  let v98 : BitVec 32 := Scalar.muli v66 c96_i32_52
  let v99 : BitVec 32 := Scalar.addi v94 v98
  let v437 : Index := Scalar.indexCast v99
  let c0_336 : Index := 0#32
  ![v437.toNat, 0]
def k0_off22 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_48 : BitVec 32 := 192#32
  let v93 : BitVec 32 := Scalar.muli v77 c192_i32_48
  let v94 : BitVec 32 := Scalar.addi c384_i32 v93
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_52 : BitVec 32 := 96#32
  let v98 : BitVec 32 := Scalar.muli v66 c96_i32_52
  let v99 : BitVec 32 := Scalar.addi v94 v98
  let c1_i32_56 : BitVec 32 := 1#32
  let v105 : BitVec 32 := Scalar.subi c1_i32_56 v12
  let c48_i32_57 : BitVec 32 := 48#32
  let v106 : BitVec 32 := Scalar.muli v105 c48_i32_57
  let v107 : BitVec 32 := Scalar.addi v99 v106
  let c0_i32_345 : BitVec 32 := 0#32
  ![v107.toNat, 0]
def k0_dev17 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_339 : BitVec 32 := 3#32
  let v444 : BitVec 32 := Scalar.xori v2 c3_i32_339
  let c1_i32_342 : BitVec 32 := 1#32
  let v445 : BitVec 32 := Scalar.muli v444 c1_i32_342
  let v446 : BitVec 32 := Scalar.addi c0_i32_343 v445
  v446.toNat
def k0_off23 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32 : BitVec 32 := 128#32
  let v108 : BitVec 32 := Scalar.muli v66 c128_i32
  let v109 : BitVec 32 := Scalar.addi c768_i32 v108
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32 : BitVec 32 := 64#32
  let v113 : BitVec 32 := Scalar.muli v39 c64_i32
  let v114 : BitVec 32 := Scalar.addi v109 v113
  let v463 : Index := Scalar.indexCast v114
  let c0_359 : Index := 0#32
  ![v463.toNat, 0]
def k0_off24 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32 : BitVec 32 := 128#32
  let v108 : BitVec 32 := Scalar.muli v66 c128_i32
  let v109 : BitVec 32 := Scalar.addi c768_i32 v108
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32 : BitVec 32 := 64#32
  let v113 : BitVec 32 := Scalar.muli v39 c64_i32
  let v114 : BitVec 32 := Scalar.addi v109 v113
  let c1_i32_63 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v120 : BitVec 32 := Scalar.subi c1_i32_63 v12
  let c32_i32_64 : BitVec 32 := 32#32
  let v121 : BitVec 32 := Scalar.muli v120 c32_i32_64
  let v122 : BitVec 32 := Scalar.addi v114 v121
  let c0_i32_367 : BitVec 32 := 0#32
  ![v122.toNat, 0]
def k0_dev18 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_362 : BitVec 32 := 1#32
  let v470 : BitVec 32 := Scalar.xori v2 c1_i32_362
  let c1_i32_364 : BitVec 32 := 1#32
  let v471 : BitVec 32 := Scalar.muli v470 c1_i32_364
  let v472 : BitVec 32 := Scalar.addi c0_i32_365 v471
  v472.toNat
def k0_off25 (d0 : Dev nD) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32_65 : BitVec 32 := 192#32
  let v123 : BitVec 32 := Scalar.muli v39 c192_i32_65
  let v124 : BitVec 32 := Scalar.addi c0_i32_66 v123
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32_70 : BitVec 32 := 96#32
  let v128 : BitVec 32 := Scalar.muli v12 c96_i32_70
  let v129 : BitVec 32 := Scalar.addi v124 v128
  let v489 : Index := Scalar.indexCast v129
  let c512_381 : Index := 512#32
  ![v489.toNat, 512]
def k0_off26 (d0 : Dev nD) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32_65 : BitVec 32 := 192#32
  let v123 : BitVec 32 := Scalar.muli v39 c192_i32_65
  let v124 : BitVec 32 := Scalar.addi c0_i32_66 v123
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32_70 : BitVec 32 := 96#32
  let v128 : BitVec 32 := Scalar.muli v12 c96_i32_70
  let v129 : BitVec 32 := Scalar.addi v124 v128
  let c1_i32_74 : BitVec 32 := 1#32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v135 : BitVec 32 := Scalar.subi c1_i32_74 v66
  let c48_i32_75 : BitVec 32 := 48#32
  let v136 : BitVec 32 := Scalar.muli v135 c48_i32_75
  let v137 : BitVec 32 := Scalar.addi v129 v136
  let c512_i32_391 : BitVec 32 := 512#32
  ![v137.toNat, 512]
def k0_dev19 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_385 : BitVec 32 := 4#32
  let v496 : BitVec 32 := Scalar.xori v2 c4_i32_385
  let c1_i32_387 : BitVec 32 := 1#32
  let v497 : BitVec 32 := Scalar.muli v496 c1_i32_387
  let v498 : BitVec 32 := Scalar.addi c0_i32_388 v497
  v498.toNat
def k0_off27 (d0 : Dev nD) : Fin 2 → Nat :=
  let c384_i32_77 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_76 : BitVec 32 := 192#32
  let v138 : BitVec 32 := Scalar.muli v77 c192_i32_76
  let v139 : BitVec 32 := Scalar.addi c384_i32_77 v138
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_81 : BitVec 32 := 96#32
  let v143 : BitVec 32 := Scalar.muli v66 c96_i32_81
  let v144 : BitVec 32 := Scalar.addi v139 v143
  let v515 : Index := Scalar.indexCast v144
  let c512_405 : Index := 512#32
  ![v515.toNat, 512]
def k0_off28 (d0 : Dev nD) : Fin 2 → Nat :=
  let c384_i32_77 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_76 : BitVec 32 := 192#32
  let v138 : BitVec 32 := Scalar.muli v77 c192_i32_76
  let v139 : BitVec 32 := Scalar.addi c384_i32_77 v138
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_81 : BitVec 32 := 96#32
  let v143 : BitVec 32 := Scalar.muli v66 c96_i32_81
  let v144 : BitVec 32 := Scalar.addi v139 v143
  let c1_i32_85 : BitVec 32 := 1#32
  let v150 : BitVec 32 := Scalar.subi c1_i32_85 v12
  let c48_i32_86 : BitVec 32 := 48#32
  let v151 : BitVec 32 := Scalar.muli v150 c48_i32_86
  let v152 : BitVec 32 := Scalar.addi v144 v151
  let c512_i32_415 : BitVec 32 := 512#32
  ![v152.toNat, 512]
def k0_dev20 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_409 : BitVec 32 := 3#32
  let v522 : BitVec 32 := Scalar.xori v2 c3_i32_409
  let c1_i32_411 : BitVec 32 := 1#32
  let v523 : BitVec 32 := Scalar.muli v522 c1_i32_411
  let v524 : BitVec 32 := Scalar.addi c0_i32_412 v523
  v524.toNat
def k0_off29 (d0 : Dev nD) : Fin 2 → Nat :=
  let c768_i32_88 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32_87 : BitVec 32 := 128#32
  let v153 : BitVec 32 := Scalar.muli v66 c128_i32_87
  let v154 : BitVec 32 := Scalar.addi c768_i32_88 v153
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32_92 : BitVec 32 := 64#32
  let v158 : BitVec 32 := Scalar.muli v39 c64_i32_92
  let v159 : BitVec 32 := Scalar.addi v154 v158
  let v541 : Index := Scalar.indexCast v159
  let c512_429 : Index := 512#32
  ![v541.toNat, 512]
def k0_off30 (d0 : Dev nD) : Fin 2 → Nat :=
  let c768_i32_88 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32_87 : BitVec 32 := 128#32
  let v153 : BitVec 32 := Scalar.muli v66 c128_i32_87
  let v154 : BitVec 32 := Scalar.addi c768_i32_88 v153
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32_92 : BitVec 32 := 64#32
  let v158 : BitVec 32 := Scalar.muli v39 c64_i32_92
  let v159 : BitVec 32 := Scalar.addi v154 v158
  let c1_i32_96 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v165 : BitVec 32 := Scalar.subi c1_i32_96 v12
  let c32_i32_97 : BitVec 32 := 32#32
  let v166 : BitVec 32 := Scalar.muli v165 c32_i32_97
  let v167 : BitVec 32 := Scalar.addi v159 v166
  let c512_i32_440 : BitVec 32 := 512#32
  ![v167.toNat, 512]
def k0_dev21 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_433 : BitVec 32 := 1#32
  let v548 : BitVec 32 := Scalar.xori v2 c1_i32_433
  let c1_i32_436 : BitVec 32 := 1#32
  let v549 : BitVec 32 := Scalar.muli v548 c1_i32_436
  let v550 : BitVec 32 := Scalar.addi c0_i32_437 v549
  v550.toNat
def k0_off31 (d0 : Dev nD) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32 : BitVec 32 := 192#32
  let v78 : BitVec 32 := Scalar.muli v39 c192_i32
  let v79 : BitVec 32 := Scalar.addi c0_i32_40 v78
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32 : BitVec 32 := 96#32
  let v83 : BitVec 32 := Scalar.muli v12 c96_i32
  let v84 : BitVec 32 := Scalar.addi v79 v83
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c48_i32 : BitVec 32 := 48#32
  let v88 : BitVec 32 := Scalar.muli v66 c48_i32
  let v89 : BitVec 32 := Scalar.addi v84 v88
  let v567 : Index := Scalar.indexCast v89
  let c0_454 : Index := 0#32
  ![v567.toNat, 0]
def k0_off32 (d0 : Dev nD) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32 : BitVec 32 := 192#32
  let v78 : BitVec 32 := Scalar.muli v39 c192_i32
  let v79 : BitVec 32 := Scalar.addi c0_i32_40 v78
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32 : BitVec 32 := 96#32
  let v83 : BitVec 32 := Scalar.muli v12 c96_i32
  let v84 : BitVec 32 := Scalar.addi v79 v83
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c48_i32 : BitVec 32 := 48#32
  let v88 : BitVec 32 := Scalar.muli v66 c48_i32
  let v89 : BitVec 32 := Scalar.addi v84 v88
  let c0_i32_463 : BitVec 32 := 0#32
  ![v89.toNat, 0]
def k0_dev22 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_458 : BitVec 32 := 4#32
  let v576 : BitVec 32 := Scalar.xori v2 c4_i32_458
  let c1_i32_461 : BitVec 32 := 1#32
  let v577 : BitVec 32 := Scalar.muli v576 c1_i32_461
  let v578 : BitVec 32 := Scalar.addi c0_i32_462 v577
  v578.toNat
def k0_off33 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_48 : BitVec 32 := 192#32
  let v93 : BitVec 32 := Scalar.muli v77 c192_i32_48
  let v94 : BitVec 32 := Scalar.addi c384_i32 v93
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_52 : BitVec 32 := 96#32
  let v98 : BitVec 32 := Scalar.muli v66 c96_i32_52
  let v99 : BitVec 32 := Scalar.addi v94 v98
  let c48_i32_55 : BitVec 32 := 48#32
  let v103 : BitVec 32 := Scalar.muli v12 c48_i32_55
  let v104 : BitVec 32 := Scalar.addi v99 v103
  let v595 : Index := Scalar.indexCast v104
  let c0_478 : Index := 0#32
  ![v595.toNat, 0]
def k0_off34 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_48 : BitVec 32 := 192#32
  let v93 : BitVec 32 := Scalar.muli v77 c192_i32_48
  let v94 : BitVec 32 := Scalar.addi c384_i32 v93
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_52 : BitVec 32 := 96#32
  let v98 : BitVec 32 := Scalar.muli v66 c96_i32_52
  let v99 : BitVec 32 := Scalar.addi v94 v98
  let c48_i32_55 : BitVec 32 := 48#32
  let v103 : BitVec 32 := Scalar.muli v12 c48_i32_55
  let v104 : BitVec 32 := Scalar.addi v99 v103
  let c0_i32_486 : BitVec 32 := 0#32
  ![v104.toNat, 0]
def k0_dev23 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_482 : BitVec 32 := 3#32
  let v604 : BitVec 32 := Scalar.xori v2 c3_i32_482
  let c1_i32_484 : BitVec 32 := 1#32
  let v605 : BitVec 32 := Scalar.muli v604 c1_i32_484
  let v606 : BitVec 32 := Scalar.addi c0_i32_485 v605
  v606.toNat
def k0_off35 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32 : BitVec 32 := 128#32
  let v108 : BitVec 32 := Scalar.muli v66 c128_i32
  let v109 : BitVec 32 := Scalar.addi c768_i32 v108
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32 : BitVec 32 := 64#32
  let v113 : BitVec 32 := Scalar.muli v39 c64_i32
  let v114 : BitVec 32 := Scalar.addi v109 v113
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c32_i32 : BitVec 32 := 32#32
  let v118 : BitVec 32 := Scalar.muli v12 c32_i32
  let v119 : BitVec 32 := Scalar.addi v114 v118
  let v623 : Index := Scalar.indexCast v119
  let c0_501 : Index := 0#32
  ![v623.toNat, 0]
def k0_off36 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32 : BitVec 32 := 128#32
  let v108 : BitVec 32 := Scalar.muli v66 c128_i32
  let v109 : BitVec 32 := Scalar.addi c768_i32 v108
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32 : BitVec 32 := 64#32
  let v113 : BitVec 32 := Scalar.muli v39 c64_i32
  let v114 : BitVec 32 := Scalar.addi v109 v113
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c32_i32 : BitVec 32 := 32#32
  let v118 : BitVec 32 := Scalar.muli v12 c32_i32
  let v119 : BitVec 32 := Scalar.addi v114 v118
  let c0_i32_509 : BitVec 32 := 0#32
  ![v119.toNat, 0]
def k0_dev24 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_505 : BitVec 32 := 1#32
  let v632 : BitVec 32 := Scalar.xori v2 c1_i32_505
  let c1_i32_507 : BitVec 32 := 1#32
  let v633 : BitVec 32 := Scalar.muli v632 c1_i32_507
  let v634 : BitVec 32 := Scalar.addi c0_i32_508 v633
  v634.toNat
def k0_off37 (d0 : Dev nD) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32_65 : BitVec 32 := 192#32
  let v123 : BitVec 32 := Scalar.muli v39 c192_i32_65
  let v124 : BitVec 32 := Scalar.addi c0_i32_66 v123
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32_70 : BitVec 32 := 96#32
  let v128 : BitVec 32 := Scalar.muli v12 c96_i32_70
  let v129 : BitVec 32 := Scalar.addi v124 v128
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c48_i32_73 : BitVec 32 := 48#32
  let v133 : BitVec 32 := Scalar.muli v66 c48_i32_73
  let v134 : BitVec 32 := Scalar.addi v129 v133
  let v651 : Index := Scalar.indexCast v134
  let c512_524 : Index := 512#32
  ![v651.toNat, 512]
def k0_off38 (d0 : Dev nD) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32_65 : BitVec 32 := 192#32
  let v123 : BitVec 32 := Scalar.muli v39 c192_i32_65
  let v124 : BitVec 32 := Scalar.addi c0_i32_66 v123
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32_70 : BitVec 32 := 96#32
  let v128 : BitVec 32 := Scalar.muli v12 c96_i32_70
  let v129 : BitVec 32 := Scalar.addi v124 v128
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c48_i32_73 : BitVec 32 := 48#32
  let v133 : BitVec 32 := Scalar.muli v66 c48_i32_73
  let v134 : BitVec 32 := Scalar.addi v129 v133
  let c512_i32_533 : BitVec 32 := 512#32
  ![v134.toNat, 512]
def k0_dev25 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_529 : BitVec 32 := 4#32
  let v660 : BitVec 32 := Scalar.xori v2 c4_i32_529
  let c1_i32_531 : BitVec 32 := 1#32
  let v661 : BitVec 32 := Scalar.muli v660 c1_i32_531
  let v662 : BitVec 32 := Scalar.addi c0_i32_532 v661
  v662.toNat
def k0_off39 (d0 : Dev nD) : Fin 2 → Nat :=
  let c384_i32_77 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_76 : BitVec 32 := 192#32
  let v138 : BitVec 32 := Scalar.muli v77 c192_i32_76
  let v139 : BitVec 32 := Scalar.addi c384_i32_77 v138
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_81 : BitVec 32 := 96#32
  let v143 : BitVec 32 := Scalar.muli v66 c96_i32_81
  let v144 : BitVec 32 := Scalar.addi v139 v143
  let c48_i32_84 : BitVec 32 := 48#32
  let v148 : BitVec 32 := Scalar.muli v12 c48_i32_84
  let v149 : BitVec 32 := Scalar.addi v144 v148
  let v679 : Index := Scalar.indexCast v149
  let c512_548 : Index := 512#32
  ![v679.toNat, 512]
def k0_off40 (d0 : Dev nD) : Fin 2 → Nat :=
  let c384_i32_77 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_76 : BitVec 32 := 192#32
  let v138 : BitVec 32 := Scalar.muli v77 c192_i32_76
  let v139 : BitVec 32 := Scalar.addi c384_i32_77 v138
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_81 : BitVec 32 := 96#32
  let v143 : BitVec 32 := Scalar.muli v66 c96_i32_81
  let v144 : BitVec 32 := Scalar.addi v139 v143
  let c48_i32_84 : BitVec 32 := 48#32
  let v148 : BitVec 32 := Scalar.muli v12 c48_i32_84
  let v149 : BitVec 32 := Scalar.addi v144 v148
  let c512_i32_557 : BitVec 32 := 512#32
  ![v149.toNat, 512]
def k0_dev26 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_553 : BitVec 32 := 3#32
  let v688 : BitVec 32 := Scalar.xori v2 c3_i32_553
  let c1_i32_555 : BitVec 32 := 1#32
  let v689 : BitVec 32 := Scalar.muli v688 c1_i32_555
  let v690 : BitVec 32 := Scalar.addi c0_i32_556 v689
  v690.toNat
def k0_off41 (d0 : Dev nD) : Fin 2 → Nat :=
  let c768_i32_88 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32_87 : BitVec 32 := 128#32
  let v153 : BitVec 32 := Scalar.muli v66 c128_i32_87
  let v154 : BitVec 32 := Scalar.addi c768_i32_88 v153
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32_92 : BitVec 32 := 64#32
  let v158 : BitVec 32 := Scalar.muli v39 c64_i32_92
  let v159 : BitVec 32 := Scalar.addi v154 v158
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c32_i32_95 : BitVec 32 := 32#32
  let v163 : BitVec 32 := Scalar.muli v12 c32_i32_95
  let v164 : BitVec 32 := Scalar.addi v159 v163
  let v707 : Index := Scalar.indexCast v164
  let c512_572 : Index := 512#32
  ![v707.toNat, 512]
def k0_off42 (d0 : Dev nD) : Fin 2 → Nat :=
  let c768_i32_88 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32_87 : BitVec 32 := 128#32
  let v153 : BitVec 32 := Scalar.muli v66 c128_i32_87
  let v154 : BitVec 32 := Scalar.addi c768_i32_88 v153
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32_92 : BitVec 32 := 64#32
  let v158 : BitVec 32 := Scalar.muli v39 c64_i32_92
  let v159 : BitVec 32 := Scalar.addi v154 v158
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c32_i32_95 : BitVec 32 := 32#32
  let v163 : BitVec 32 := Scalar.muli v12 c32_i32_95
  let v164 : BitVec 32 := Scalar.addi v159 v163
  let c512_i32_581 : BitVec 32 := 512#32
  ![v164.toNat, 512]
def k0_dev27 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_577 : BitVec 32 := 1#32
  let v716 : BitVec 32 := Scalar.xori v2 c1_i32_577
  let c1_i32_579 : BitVec 32 := 1#32
  let v717 : BitVec 32 := Scalar.muli v716 c1_i32_579
  let v718 : BitVec 32 := Scalar.addi c0_i32_580 v717
  v718.toNat
def k0_off43 (d0 : Dev nD) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32 : BitVec 32 := 192#32
  let v78 : BitVec 32 := Scalar.muli v39 c192_i32
  let v79 : BitVec 32 := Scalar.addi c0_i32_40 v78
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32 : BitVec 32 := 96#32
  let v83 : BitVec 32 := Scalar.muli v12 c96_i32
  let v84 : BitVec 32 := Scalar.addi v79 v83
  let c0_i32_599 : BitVec 32 := 0#32
  ![v84.toNat, 0]
def k0_dev28 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_594 : BitVec 32 := 1#32
  let v735 : BitVec 32 := Scalar.xori v2 c1_i32_594
  let c1_i32_597 : BitVec 32 := 1#32
  let v736 : BitVec 32 := Scalar.muli v735 c1_i32_597
  let v737 : BitVec 32 := Scalar.addi c0_i32_598 v736
  v737.toNat
def k0_off44 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_48 : BitVec 32 := 192#32
  let v93 : BitVec 32 := Scalar.muli v77 c192_i32_48
  let v94 : BitVec 32 := Scalar.addi c384_i32 v93
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_52 : BitVec 32 := 96#32
  let v98 : BitVec 32 := Scalar.muli v66 c96_i32_52
  let v99 : BitVec 32 := Scalar.addi v94 v98
  let c0_i32_616 : BitVec 32 := 0#32
  ![v99.toNat, 0]
def k0_dev29 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_612 : BitVec 32 := 4#32
  let v754 : BitVec 32 := Scalar.xori v2 c4_i32_612
  let c1_i32_614 : BitVec 32 := 1#32
  let v755 : BitVec 32 := Scalar.muli v754 c1_i32_614
  let v756 : BitVec 32 := Scalar.addi c0_i32_615 v755
  v756.toNat
def k0_off45 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32 : BitVec 32 := 128#32
  let v108 : BitVec 32 := Scalar.muli v66 c128_i32
  let v109 : BitVec 32 := Scalar.addi c768_i32 v108
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32 : BitVec 32 := 64#32
  let v113 : BitVec 32 := Scalar.muli v39 c64_i32
  let v114 : BitVec 32 := Scalar.addi v109 v113
  let c0_i32_633 : BitVec 32 := 0#32
  ![v114.toNat, 0]
def k0_dev30 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_629 : BitVec 32 := 3#32
  let v773 : BitVec 32 := Scalar.xori v2 c3_i32_629
  let c1_i32_631 : BitVec 32 := 1#32
  let v774 : BitVec 32 := Scalar.muli v773 c1_i32_631
  let v775 : BitVec 32 := Scalar.addi c0_i32_632 v774
  v775.toNat
def k0_off46 (d0 : Dev nD) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32_65 : BitVec 32 := 192#32
  let v123 : BitVec 32 := Scalar.muli v39 c192_i32_65
  let v124 : BitVec 32 := Scalar.addi c0_i32_66 v123
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c96_i32_70 : BitVec 32 := 96#32
  let v128 : BitVec 32 := Scalar.muli v12 c96_i32_70
  let v129 : BitVec 32 := Scalar.addi v124 v128
  let c512_i32_650 : BitVec 32 := 512#32
  ![v129.toNat, 512]
def k0_dev31 (d0 : Dev nD) : Nat :=
  let c0_i32_649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_646 : BitVec 32 := 1#32
  let v792 : BitVec 32 := Scalar.xori v2 c1_i32_646
  let c1_i32_648 : BitVec 32 := 1#32
  let v793 : BitVec 32 := Scalar.muli v792 c1_i32_648
  let v794 : BitVec 32 := Scalar.addi c0_i32_649 v793
  v794.toNat
def k0_off47 (d0 : Dev nD) : Fin 2 → Nat :=
  let c384_i32_77 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_76 : BitVec 32 := 192#32
  let v138 : BitVec 32 := Scalar.muli v77 c192_i32_76
  let v139 : BitVec 32 := Scalar.addi c384_i32_77 v138
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c96_i32_81 : BitVec 32 := 96#32
  let v143 : BitVec 32 := Scalar.muli v66 c96_i32_81
  let v144 : BitVec 32 := Scalar.addi v139 v143
  let c512_i32_667 : BitVec 32 := 512#32
  ![v144.toNat, 512]
def k0_dev32 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_663 : BitVec 32 := 4#32
  let v811 : BitVec 32 := Scalar.xori v2 c4_i32_663
  let c1_i32_665 : BitVec 32 := 1#32
  let v812 : BitVec 32 := Scalar.muli v811 c1_i32_665
  let v813 : BitVec 32 := Scalar.addi c0_i32_666 v812
  v813.toNat
def k0_off48 (d0 : Dev nD) : Fin 2 → Nat :=
  let c768_i32_88 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32_87 : BitVec 32 := 128#32
  let v153 : BitVec 32 := Scalar.muli v66 c128_i32_87
  let v154 : BitVec 32 := Scalar.addi c768_i32_88 v153
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c64_i32_92 : BitVec 32 := 64#32
  let v158 : BitVec 32 := Scalar.muli v39 c64_i32_92
  let v159 : BitVec 32 := Scalar.addi v154 v158
  let c512_i32_684 : BitVec 32 := 512#32
  ![v159.toNat, 512]
def k0_dev33 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_680 : BitVec 32 := 3#32
  let v830 : BitVec 32 := Scalar.xori v2 c3_i32_680
  let c1_i32_682 : BitVec 32 := 1#32
  let v831 : BitVec 32 := Scalar.muli v830 c1_i32_682
  let v832 : BitVec 32 := Scalar.addi c0_i32_683 v831
  v832.toNat
def k0_off49 (d0 : Dev nD) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32 : BitVec 32 := 192#32
  let v78 : BitVec 32 := Scalar.muli v39 c192_i32
  let v79 : BitVec 32 := Scalar.addi c0_i32_40 v78
  let c0_i32_701 : BitVec 32 := 0#32
  ![v79.toNat, 0]
def k0_dev34 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_697 : BitVec 32 := 3#32
  let v849 : BitVec 32 := Scalar.xori v2 c3_i32_697
  let c1_i32_699 : BitVec 32 := 1#32
  let v850 : BitVec 32 := Scalar.muli v849 c1_i32_699
  let v851 : BitVec 32 := Scalar.addi c0_i32_700 v850
  v851.toNat
def k0_off50 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_48 : BitVec 32 := 192#32
  let v93 : BitVec 32 := Scalar.muli v77 c192_i32_48
  let v94 : BitVec 32 := Scalar.addi c384_i32 v93
  let c0_i32_718 : BitVec 32 := 0#32
  ![v94.toNat, 0]
def k0_dev35 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_714 : BitVec 32 := 1#32
  let v868 : BitVec 32 := Scalar.xori v2 c1_i32_714
  let c1_i32_716 : BitVec 32 := 1#32
  let v869 : BitVec 32 := Scalar.muli v868 c1_i32_716
  let v870 : BitVec 32 := Scalar.addi c0_i32_717 v869
  v870.toNat
def k0_off51 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32 : BitVec 32 := 128#32
  let v108 : BitVec 32 := Scalar.muli v66 c128_i32
  let v109 : BitVec 32 := Scalar.addi c768_i32 v108
  let c0_i32_735 : BitVec 32 := 0#32
  ![v109.toNat, 0]
def k0_dev36 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_731 : BitVec 32 := 4#32
  let v887 : BitVec 32 := Scalar.xori v2 c4_i32_731
  let c1_i32_733 : BitVec 32 := 1#32
  let v888 : BitVec 32 := Scalar.muli v887 c1_i32_733
  let v889 : BitVec 32 := Scalar.addi c0_i32_734 v888
  v889.toNat
def k0_off52 (d0 : Dev nD) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c192_i32_65 : BitVec 32 := 192#32
  let v123 : BitVec 32 := Scalar.muli v39 c192_i32_65
  let v124 : BitVec 32 := Scalar.addi c0_i32_66 v123
  let c512_i32_752 : BitVec 32 := 512#32
  ![v124.toNat, 512]
def k0_dev37 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_748 : BitVec 32 := 3#32
  let v906 : BitVec 32 := Scalar.xori v2 c3_i32_748
  let c1_i32_750 : BitVec 32 := 1#32
  let v907 : BitVec 32 := Scalar.muli v906 c1_i32_750
  let v908 : BitVec 32 := Scalar.addi c0_i32_751 v907
  v908.toNat
def k0_off53 (d0 : Dev nD) : Fin 2 → Nat :=
  let c384_i32_77 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let v77 : BitVec 32 := Scalar.xori v12 v39
  let c192_i32_76 : BitVec 32 := 192#32
  let v138 : BitVec 32 := Scalar.muli v77 c192_i32_76
  let v139 : BitVec 32 := Scalar.addi c384_i32_77 v138
  let c512_i32_769 : BitVec 32 := 512#32
  ![v139.toNat, 512]
def k0_dev38 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_765 : BitVec 32 := 1#32
  let v925 : BitVec 32 := Scalar.xori v2 c1_i32_765
  let c1_i32_767 : BitVec 32 := 1#32
  let v926 : BitVec 32 := Scalar.muli v925 c1_i32_767
  let v927 : BitVec 32 := Scalar.addi c0_i32_768 v926
  v927.toNat
def k0_off54 (d0 : Dev nD) : Fin 2 → Nat :=
  let c768_i32_88 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .sgt v2 c0_i32_17
  let v42 : BitVec 32 := Scalar.extui v41
  let c0_i32_18 : BitVec 32 := 0#32
  let v43 : BitVec 1 := Scalar.cmpi .slt v2 c0_i32_18
  let v44 : BitVec 32 := Scalar.extui v43
  let v45 : BitVec 32 := Scalar.subi v42 v44
  let c4_i32 : BitVec 32 := 4#32
  let c0_i32_19 : BitVec 32 := 0#32
  let v46 : BitVec 1 := Scalar.cmpi .sgt c4_i32 c0_i32_19
  let v47 : BitVec 32 := Scalar.extui v46
  let c0_i32_20 : BitVec 32 := 0#32
  let v48 : BitVec 1 := Scalar.cmpi .slt c4_i32 c0_i32_20
  let v49 : BitVec 32 := Scalar.extui v48
  let v50 : BitVec 32 := Scalar.subi v47 v49
  let v51 : BitVec 1 := Scalar.cmpi .ne v45 v50
  let v52 : BitVec 32 := Scalar.remsi v2 c4_i32
  let c0_i32_21 : BitVec 32 := 0#32
  let v53 : BitVec 1 := Scalar.cmpi .ne v52 c0_i32_21
  let v54 : BitVec 1 := Scalar.andi v51 v53
  let v40 : BitVec 32 := Scalar.divsi v2 c4_i32
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c128_i32_87 : BitVec 32 := 128#32
  let v153 : BitVec 32 := Scalar.muli v66 c128_i32_87
  let v154 : BitVec 32 := Scalar.addi c768_i32_88 v153
  let c512_i32_786 : BitVec 32 := 512#32
  ![v154.toNat, 512]
def k0_dev39 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_782 : BitVec 32 := 4#32
  let v944 : BitVec 32 := Scalar.xori v2 c4_i32_782
  let c1_i32_784 : BitVec 32 := 1#32
  let v945 : BitVec 32 := Scalar.muli v944 c1_i32_784
  let v946 : BitVec 32 := Scalar.addi c0_i32_785 v945
  v946.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .hbm, ⟨4, _⟩ => ⟨S_, .bf16⟩
  | .hbm, ⟨5, _⟩ => ⟨S1024x1024, .bf16⟩
  | .hbm, ⟨6, _⟩ => ⟨S1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Geo.lean ====
/-
The geometry of the all-reduce: which rows and columns of the result each of the six parts covers, which half of
them a device keeps at each halving step, whom it exchanges with, and the printed offsets and peers in these terms.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.AllReduce

open Cert.KernelIdeal Cert.KernelIdeal.Gen

open Idealize.ShloMosaic
open Idealize.ShloMosaic.TcCoe

/-! ## Peers -/

/-- The three exchange masks: a device talks to the devices whose numbers differ from its own by one of them. -/
abbrev msk (m : Fin 3) : ℕ := if m.val = 0 then 3 else if m.val = 1 then 1 else 4

/-- The device at the other end of mask `m`. -/
def peer (m : Fin 3) (c : Dev nD) : Dev nD := ⟨(c.val ^^^ msk m) % 8, Nat.mod_lt _ (by decide)⟩

theorem peer_peer (m : Fin 3) (c : Dev nD) : peer m (peer m c) = c := by revert m c; decide
theorem peer_inj_mask (m m' : Fin 3) (c : Dev nD) (h : peer m c = peer m' c) : m = m' := by revert m m' c; decide
theorem peer_ne (m : Fin 3) (c : Dev nD) : peer m c ≠ c := by revert m c; decide

/-- Exchanging along mask `m` pairs the devices off. -/
def swap (m : Fin 3) : Dev nD ≃ Dev nD := ⟨peer m, peer m, peer_peer m, peer_peer m⟩

/-- The halving step a stage belongs to: 0, 1, 2 going down, then 2, 1, 0 going up. -/
abbrev lvl (k : ℕ) : ℕ := min k (5 - k)

/-- The mask part `p` uses at halving step `t`. -/
def mk (p : Fin 6) (t : ℕ) : Fin 3 := ⟨(p.val + t) % 3, Nat.mod_lt _ (by decide)⟩
/-- The halving step at which part `p` uses mask `m`. -/
def tm (p : Fin 6) (m : Fin 3) : ℕ := (m.val + 6 - p.val) % 3

/-- Whom device `c` exchanges part `p` with at step `t`. -/
abbrev pr (p : Fin 6) (t : ℕ) (c : Dev nD) : Dev nD := peer (mk p t) c

/-! ## Rows and columns -/

/-- The number of rows of part `p`, its first row and its first column. -/
def rows (p : Fin 6) : ℕ := if p.val % 3 = 2 then 256 else 384
def base (p : Fin 6) : ℕ := 384 * (p.val % 3)
def col (p : Fin 6) : ℕ := if p.val < 3 then 0 else 512

/-- How many rows are left of part `p` after `t` halvings. -/
def sz (p : Fin 6) (t : ℕ) : ℕ := rows p / 2 ^ t

/-- Which half device `c` keeps of part `p` at step `t`. -/
def bit (p : Fin 6) (t : ℕ) (c : Dev nD) : ℕ :=
  if p.val % 3 = 0 then (if t = 0 then c.val / 2 % 2 else if t = 1 then c.val % 2 else c.val / 4 % 2)
  else if p.val % 3 = 1 then (if t = 0 then (c.val + c.val / 2) % 2 else if t = 1 then c.val / 4 % 2 else c.val % 2)
  else (if t = 0 then c.val / 4 % 2 else if t = 1 then c.val / 2 % 2 else c.val % 2)

/-- The first of the rows device `c` still works on after `t` halvings. -/
def cur (p : Fin 6) (c : Dev nD) : ℕ → ℕ
  | 0 => base p
  | t + 1 => cur p c t + bit p t c * sz p (t + 1)

/-- The first of the rows device `c` gives away at step `t`. -/
def giv (p : Fin 6) (c : Dev nD) (t : ℕ) : ℕ := cur p c t + (1 - bit p t c) * sz p (t + 1)

/-- The first row of the landing buffer for part `p`, step `t`. -/
def boff (p : Fin 6) (t : ℕ) : ℕ := 336 * (p.val % 3) + (rows p - sz p t)

theorem sz_half (p : Fin 6) (t : Fin 3) : sz p t.val = 2 * sz p (t.val + 1) := by revert p t; decide
theorem sz_pos (p : Fin 6) (t : Fin 4) : 0 < sz p t.val := by revert p t; decide
theorem sz_zero (p : Fin 6) : sz p 0 = rows p := by revert p; decide

/-- A step cuts the current rows in two: those kept and those given away. -/
theorem cut (p : Fin 6) (t : Fin 3) (c : Dev nD) :
    (cur p c (t.val + 1) = cur p c t.val ∧ giv p c t.val = cur p c t.val + sz p (t.val + 1))
      ∨ (giv p c t.val = cur p c t.val ∧ cur p c (t.val + 1) = cur p c t.val + sz p (t.val + 1)) := by
  revert p t c; decide

/-- What a device gives away is what its partner keeps, and the other way round. -/
theorem giv_pr (p : Fin 6) (t : Fin 3) (c : Dev nD) : giv p (pr p t.val c) t.val = cur p c (t.val + 1) := by
  revert p t c; decide
theorem cur_pr (p : Fin 6) (t : Fin 3) (c : Dev nD) : cur p (pr p t.val c) (t.val + 1) = giv p c t.val := by
  revert p t c; decide

/-- The current rows lie inside the part. -/
theorem cur_le (p : Fin 6) (t : Fin 4) (c : Dev nD) : base p ≤ cur p c t.val ∧ cur p c t.val + sz p t.val ≤ base p + rows p := by
  revert p t c; decide
theorem base_le (p : Fin 6) : base p + rows p ≤ 1024 := by revert p; decide
theorem col_le (p : Fin 6) : col p + 512 ≤ 1024 := by revert p; decide
theorem boff_le (p : Fin 6) (t : Fin 3) : boff p t.val + sz p (t.val + 1) ≤ 896 := by revert p t; decide

/-- After the three halvings no two devices hold a common row of a part. -/
theorem cur_sep (p : Fin 6) (c c' : Dev nD) (h : c ≠ c') :
    cur p c 3 + sz p 3 ≤ cur p c' 3 ∨ cur p c' 3 + sz p 3 ≤ cur p c 3 := by revert p c c'; decide

/-! ## The printed peers and offsets -/

theorem off1 (c : Dev nD) : k0_off1 c = ![giv 0 c 0, col 0] := by revert c; decide +kernel
theorem off2 (c : Dev nD) : k0_off2 c = ![giv 3 c 0, col 3] := by revert c; decide +kernel
theorem off3 (c : Dev nD) : k0_off3 c = ![giv 1 c 0, col 1] := by revert c; decide +kernel
theorem off4 (c : Dev nD) : k0_off4 c = ![giv 4 c 0, col 4] := by revert c; decide +kernel
theorem off5 (c : Dev nD) : k0_off5 c = ![giv 2 c 0, col 2] := by revert c; decide +kernel
theorem off6 (c : Dev nD) : k0_off6 c = ![giv 5 c 0, col 5] := by revert c; decide +kernel
theorem off7 (c : Dev nD) : k0_off7 c = ![cur 0 c 1, col 0] := by revert c; decide +kernel
theorem off8 (c : Dev nD) : k0_off8 c = ![giv 0 c 1, col 0] := by revert c; decide +kernel
theorem off9 (c : Dev nD) : k0_off9 c = ![cur 1 c 1, col 1] := by revert c; decide +kernel
theorem off10 (c : Dev nD) : k0_off10 c = ![giv 1 c 1, col 1] := by revert c; decide +kernel
theorem off11 (c : Dev nD) : k0_off11 c = ![cur 2 c 1, col 2] := by revert c; decide +kernel
theorem off12 (c : Dev nD) : k0_off12 c = ![giv 2 c 1, col 2] := by revert c; decide +kernel
theorem off13 (c : Dev nD) : k0_off13 c = ![cur 3 c 1, col 3] := by revert c; decide +kernel
theorem off14 (c : Dev nD) : k0_off14 c = ![giv 3 c 1, col 3] := by revert c; decide +kernel
theorem off15 (c : Dev nD) : k0_off15 c = ![cur 4 c 1, col 4] := by revert c; decide +kernel
theorem off16 (c : Dev nD) : k0_off16 c = ![giv 4 c 1, col 4] := by revert c; decide +kernel
theorem off17 (c : Dev nD) : k0_off17 c = ![cur 5 c 1, col 5] := by revert c; decide +kernel
theorem off18 (c : Dev nD) : k0_off18 c = ![giv 5 c 1, col 5] := by revert c; decide +kernel
theorem off19 (c : Dev nD) : k0_off19 c = ![cur 0 c 2, col 0] := by revert c; decide +kernel
theorem off20 (c : Dev nD) : k0_off20 c = ![giv 0 c 2, col 0] := by revert c; decide +kernel
theorem off21 (c : Dev nD) : k0_off21 c = ![cur 1 c 2, col 1] := by revert c; decide +kernel
theorem off22 (c : Dev nD) : k0_off22 c = ![giv 1 c 2, col 1] := by revert c; decide +kernel
theorem off23 (c : Dev nD) : k0_off23 c = ![cur 2 c 2, col 2] := by revert c; decide +kernel
theorem off24 (c : Dev nD) : k0_off24 c = ![giv 2 c 2, col 2] := by revert c; decide +kernel
theorem off25 (c : Dev nD) : k0_off25 c = ![cur 3 c 2, col 3] := by revert c; decide +kernel
theorem off26 (c : Dev nD) : k0_off26 c = ![giv 3 c 2, col 3] := by revert c; decide +kernel
theorem off27 (c : Dev nD) : k0_off27 c = ![cur 4 c 2, col 4] := by revert c; decide +kernel
theorem off28 (c : Dev nD) : k0_off28 c = ![giv 4 c 2, col 4] := by revert c; decide +kernel
theorem off29 (c : Dev nD) : k0_off29 c = ![cur 5 c 2, col 5] := by revert c; decide +kernel
theorem off30 (c : Dev nD) : k0_off30 c = ![giv 5 c 2, col 5] := by revert c; decide +kernel
theorem off31 (c : Dev nD) : k0_off31 c = ![cur 0 c 3, col 0] := by revert c; decide +kernel
theorem off32 (c : Dev nD) : k0_off32 c = ![cur 0 c 3, col 0] := by revert c; decide +kernel
theorem off33 (c : Dev nD) : k0_off33 c = ![cur 1 c 3, col 1] := by revert c; decide +kernel
theorem off34 (c : Dev nD) : k0_off34 c = ![cur 1 c 3, col 1] := by revert c; decide +kernel
theorem off35 (c : Dev nD) : k0_off35 c = ![cur 2 c 3, col 2] := by revert c; decide +kernel
theorem off36 (c : Dev nD) : k0_off36 c = ![cur 2 c 3, col 2] := by revert c; decide +kernel
theorem off37 (c : Dev nD) : k0_off37 c = ![cur 3 c 3, col 3] := by revert c; decide +kernel
theorem off38 (c : Dev nD) : k0_off38 c = ![cur 3 c 3, col 3] := by revert c; decide +kernel
theorem off39 (c : Dev nD) : k0_off39 c = ![cur 4 c 3, col 4] := by revert c; decide +kernel
theorem off40 (c : Dev nD) : k0_off40 c = ![cur 4 c 3, col 4] := by revert c; decide +kernel
theorem off41 (c : Dev nD) : k0_off41 c = ![cur 5 c 3, col 5] := by revert c; decide +kernel
theorem off42 (c : Dev nD) : k0_off42 c = ![cur 5 c 3, col 5] := by revert c; decide +kernel
theorem off43 (c : Dev nD) : k0_off43 c = ![cur 0 c 2, col 0] := by revert c; decide +kernel
theorem off44 (c : Dev nD) : k0_off44 c = ![cur 1 c 2, col 1] := by revert c; decide +kernel
theorem off45 (c : Dev nD) : k0_off45 c = ![cur 2 c 2, col 2] := by revert c; decide +kernel
theorem off46 (c : Dev nD) : k0_off46 c = ![cur 3 c 2, col 3] := by revert c; decide +kernel
theorem off47 (c : Dev nD) : k0_off47 c = ![cur 4 c 2, col 4] := by revert c; decide +kernel
theorem off48 (c : Dev nD) : k0_off48 c = ![cur 5 c 2, col 5] := by revert c; decide +kernel
theorem off49 (c : Dev nD) : k0_off49 c = ![cur 0 c 1, col 0] := by revert c; decide +kernel
theorem off50 (c : Dev nD) : k0_off50 c = ![cur 1 c 1, col 1] := by revert c; decide +kernel
theorem off51 (c : Dev nD) : k0_off51 c = ![cur 2 c 1, col 2] := by revert c; decide +kernel
theorem off52 (c : Dev nD) : k0_off52 c = ![cur 3 c 1, col 3] := by revert c; decide +kernel
theorem off53 (c : Dev nD) : k0_off53 c = ![cur 4 c 1, col 4] := by revert c; decide +kernel
theorem off54 (c : Dev nD) : k0_off54 c = ![cur 5 c 1, col 5] := by revert c; decide +kernel
theorem dev1 (c : Dev nD) : (⟨k0_dev1 c, k0_dev1_lt c⟩ : Dev nD) = peer 0 c := by revert c; decide +kernel
theorem dev2 (c : Dev nD) : (⟨k0_dev2 c, k0_dev2_lt c⟩ : Dev nD) = peer 1 c := by revert c; decide +kernel
theorem dev3 (c : Dev nD) : (⟨k0_dev3 c, k0_dev3_lt c⟩ : Dev nD) = peer 2 c := by revert c; decide +kernel
theorem dev4 (c : Dev nD) : (⟨k0_dev4 c, k0_dev4_lt c⟩ : Dev nD) = pr 0 0 c := by revert c; decide +kernel
theorem dev5 (c : Dev nD) : (⟨k0_dev5 c, k0_dev5_lt c⟩ : Dev nD) = pr 3 0 c := by revert c; decide +kernel
theorem dev6 (c : Dev nD) : (⟨k0_dev6 c, k0_dev6_lt c⟩ : Dev nD) = pr 1 0 c := by revert c; decide +kernel
theorem dev7 (c : Dev nD) : (⟨k0_dev7 c, k0_dev7_lt c⟩ : Dev nD) = pr 4 0 c := by revert c; decide +kernel
theorem dev8 (c : Dev nD) : (⟨k0_dev8 c, k0_dev8_lt c⟩ : Dev nD) = pr 2 0 c := by revert c; decide +kernel
theorem dev9 (c : Dev nD) : (⟨k0_dev9 c, k0_dev9_lt c⟩ : Dev nD) = pr 5 0 c := by revert c; decide +kernel
theorem dev10 (c : Dev nD) : (⟨k0_dev10 c, k0_dev10_lt c⟩ : Dev nD) = pr 0 1 c := by revert c; decide +kernel
theorem dev11 (c : Dev nD) : (⟨k0_dev11 c, k0_dev11_lt c⟩ : Dev nD) = pr 1 1 c := by revert c; decide +kernel
theorem dev12 (c : Dev nD) : (⟨k0_dev12 c, k0_dev12_lt c⟩ : Dev nD) = pr 2 1 c := by revert c; decide +kernel
theorem dev13 (c : Dev nD) : (⟨k0_dev13 c, k0_dev13_lt c⟩ : Dev nD) = pr 3 1 c := by revert c; decide +kernel
theorem dev14 (c : Dev nD) : (⟨k0_dev14 c, k0_dev14_lt c⟩ : Dev nD) = pr 4 1 c := by revert c; decide +kernel
theorem dev15 (c : Dev nD) : (⟨k0_dev15 c, k0_dev15_lt c⟩ : Dev nD) = pr 5 1 c := by revert c; decide +kernel
theorem dev16 (c : Dev nD) : (⟨k0_dev16 c, k0_dev16_lt c⟩ : Dev nD) = pr 0 2 c := by revert c; decide +kernel
theorem dev17 (c : Dev nD) : (⟨k0_dev17 c, k0_dev17_lt c⟩ : Dev nD) = pr 1 2 c := by revert c; decide +kernel
theorem dev18 (c : Dev nD) : (⟨k0_dev18 c, k0_dev18_lt c⟩ : Dev nD) = pr 2 2 c := by revert c; decide +kernel
theorem dev19 (c : Dev nD) : (⟨k0_dev19 c, k0_dev19_lt c⟩ : Dev nD) = pr 3 2 c := by revert c; decide +kernel
theorem dev20 (c : Dev nD) : (⟨k0_dev20 c, k0_dev20_lt c⟩ : Dev nD) = pr 4 2 c := by revert c; decide +kernel
theorem dev21 (c : Dev nD) : (⟨k0_dev21 c, k0_dev21_lt c⟩ : Dev nD) = pr 5 2 c := by revert c; decide +kernel
theorem dev22 (c : Dev nD) : (⟨k0_dev22 c, k0_dev22_lt c⟩ : Dev nD) = pr 0 2 c := by revert c; decide +kernel
theorem dev23 (c : Dev nD) : (⟨k0_dev23 c, k0_dev23_lt c⟩ : Dev nD) = pr 1 2 c := by revert c; decide +kernel
theorem dev24 (c : Dev nD) : (⟨k0_dev24 c, k0_dev24_lt c⟩ : Dev nD) = pr 2 2 c := by revert c; decide +kernel
theorem dev25 (c : Dev nD) : (⟨k0_dev25 c, k0_dev25_lt c⟩ : Dev nD) = pr 3 2 c := by revert c; decide +kernel
theorem dev26 (c : Dev nD) : (⟨k0_dev26 c, k0_dev26_lt c⟩ : Dev nD) = pr 4 2 c := by revert c; decide +kernel
theorem dev27 (c : Dev nD) : (⟨k0_dev27 c, k0_dev27_lt c⟩ : Dev nD) = pr 5 2 c := by revert c; decide +kernel
theorem dev28 (c : Dev nD) : (⟨k0_dev28 c, k0_dev28_lt c⟩ : Dev nD) = pr 0 1 c := by revert c; decide +kernel
theorem dev29 (c : Dev nD) : (⟨k0_dev29 c, k0_dev29_lt c⟩ : Dev nD) = pr 1 1 c := by revert c; decide +kernel
theorem dev30 (c : Dev nD) : (⟨k0_dev30 c, k0_dev30_lt c⟩ : Dev nD) = pr 2 1 c := by revert c; decide +kernel
theorem dev31 (c : Dev nD) : (⟨k0_dev31 c, k0_dev31_lt c⟩ : Dev nD) = pr 3 1 c := by revert c; decide +kernel
theorem dev32 (c : Dev nD) : (⟨k0_dev32 c, k0_dev32_lt c⟩ : Dev nD) = pr 4 1 c := by revert c; decide +kernel
theorem dev33 (c : Dev nD) : (⟨k0_dev33 c, k0_dev33_lt c⟩ : Dev nD) = pr 5 1 c := by revert c; decide +kernel
theorem dev34 (c : Dev nD) : (⟨k0_dev34 c, k0_dev34_lt c⟩ : Dev nD) = pr 0 0 c := by revert c; decide +kernel
theorem dev35 (c : Dev nD) : (⟨k0_dev35 c, k0_dev35_lt c⟩ : Dev nD) = pr 1 0 c := by revert c; decide +kernel
theorem dev36 (c : Dev nD) : (⟨k0_dev36 c, k0_dev36_lt c⟩ : Dev nD) = pr 2 0 c := by revert c; decide +kernel
theorem dev37 (c : Dev nD) : (⟨k0_dev37 c, k0_dev37_lt c⟩ : Dev nD) = pr 3 0 c := by revert c; decide +kernel
theorem dev38 (c : Dev nD) : (⟨k0_dev38 c, k0_dev38_lt c⟩ : Dev nD) = pr 4 0 c := by revert c; decide +kernel
theorem dev39 (c : Dev nD) : (⟨k0_dev39 c, k0_dev39_lt c⟩ : Dev nD) = pr 5 0 c := by revert c; decide +kernel

end Cert.AllReduce

end
-- ==== Proof.Proto.lean ====
/-
The protocol of the all-reduce: the resource algebra, the contents of every buffer at every stage, the regions of the
two buffers, the semaphore cells and what each of them hands over, and what a device still owes.
-/
module

public import proofs.«01_k».proof.Proof.Geo
public import Idealize.ShloMosaic.Lib.ValueIdxCore

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds beside this protocol's, whose duties are numbered 0, 1, 2 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-- Contents of the result buffer and of the landing buffer. -/
abbrev OB (F : FTy → Type) : Type := Vec F S1024x1024 .bf16
abbrev RB (F : FTy → Type) : Type := Vec F S896x1024 .bf16

/-- Device `c`'s running sum for part `p` after `t` steps, as if kept on the whole buffer: its own product first, then at
each step its partner's running sum added. -/
def acc (X : Dev nD → OB F) (p : Fin 6) : ℕ → Dev nD → OB F
  | 0, c => X c
  | t + 1, c => fun i => FloatOps.addf (acc X p t c i) (acc X p t (pr p t c) i)

/-- The device left with row `r` of part `p` after the three steps down. -/
def owner (p : Fin 6) (r : ℕ) : Dev nD := by
  classical exact if h : ∃ c : Dev nD, cur p c 3 ≤ r ∧ r < cur p c 3 + sz p 3 then h.choose else 0

theorem owner_eq (p : Fin 6) (c : Dev nD) (r : ℕ) (h : cur p c 3 ≤ r ∧ r < cur p c 3 + sz p 3) : owner p r = c := by
  have hex : ∃ c : Dev nD, cur p c 3 ≤ r ∧ r < cur p c 3 + sz p 3 := ⟨c, h⟩
  unfold owner; rw [dif_pos hex]
  by_contra hne
  have h' := hex.choose_spec
  rcases cur_sep p _ _ hne with hs | hs <;> omega

/-- The maximum of a number and zero. -/
def relu (x : Elt F .bf16) : Elt F .bf16 := FloatOps.maximumf x (FloatOps.ofBits .bf16 0x0000#16)

/-- The final contents of part `p`: in each row the complete sum its owner formed, cut off below at zero. -/
def res (X : Dev nD → OB F) (p : Fin 6) : OB F := fun i => relu (acc X p 3 (owner p (i 0).val) i)

/-! ## Regions -/

/-- Rows `r … r + n - 1`, columns `q … q + 511` of the result buffer and of the landing buffer. -/
def oSet (r n q : ℕ) : Finset S1024x1024.Idx :=
  Finset.univ.filter fun i => (r ≤ (i 0).val ∧ (i 0).val < r + n) ∧ (q ≤ (i 1).val ∧ (i 1).val < q + 512)
def rSet (r n q : ℕ) : Finset S896x1024.Idx :=
  Finset.univ.filter fun i => (r ≤ (i 0).val ∧ (i 0).val < r + n) ∧ (q ≤ (i 1).val ∧ (i 1).val < q + 512)

/-- Owning such a region on device `d`. -/
def oPts (d : Dev nD) (r n q : ℕ) (f : OB F) : sProp 𝕄 := ((d : Thread nD τ).loc cc0_stg2_0) ↦[oSet r n q]{fullShare} f
def rPts (d : Dev nD) (r n q : ℕ) (f : RB F) : sProp 𝕄 := ((d : Thread nD τ).loc cc0_scratch1) ↦[rSet r n q]{fullShare} f

omit [FloatOps F] in
instance oPts_storable (d : Dev nD) (r n q : ℕ) (f : OB F) : BI.Storable (upEmb : UEmb _ 𝕄) (oPts d r n q f) := by unfold oPts; infer_instance
omit [FloatOps F] in
instance rPts_storable (d : Dev nD) (r n q : ℕ) (f : RB F) : BI.Storable (upEmb : UEmb _ 𝕄) (rPts d r n q f) := by unfold rPts; infer_instance

/-- Entry `(a, b)` of the two buffers. -/
def ixO (a b : ℕ) : S1024x1024.Idx := ValueIdx.ix2 (⟨a % 1024, Nat.mod_lt _ (by decide)⟩ : Fin 1024) (⟨b % 1024, Nat.mod_lt _ (by decide)⟩ : Fin 1024)
def ixR (a b : ℕ) : S896x1024.Idx := ValueIdx.ix2 (⟨a % 896, Nat.mod_lt _ (by decide)⟩ : Fin 896) (⟨b % 1024, Nat.mod_lt _ (by decide)⟩ : Fin 1024)

/-- The landing buffer's rows from `br` hold the rows of `g` from `r`, `n` of them, in columns `q … q + 511`. -/
def Landed (f : RB F) (g : OB F) (br r n q : ℕ) : Prop := ∀ x y, x < n → y < 512 → f (ixR (br + x) (q + y)) = g (ixO (r + x) (q + y))

/-! ## Cells -/

/-- The barrier semaphore, and the DMA semaphores of part `p`, stage `k`: the sender's and the receiver's. -/
abbrev barS : Sem sig := (SemArray.scalar (sig.barrier 0 rfl) : Sems sig S_).sem
def sndS (p k : Fin 6) : DmaSem sig := ⟨3 + (6 * p.val + k.val), by have := p.isLt; have := k.isLt; show _ < 75; omega⟩
def rcvS (p k : Fin 6) : DmaSem sig := ⟨39 + (6 * p.val + k.val), by have := p.isLt; have := k.isLt; show _ < 75; omega⟩

abbrev barCell (c : Dev nD) : GSem nD τ sig := ((c : Thread nD τ), .reg barS)
abbrev sndCell (p k : Fin 6) (c : Dev nD) : GSem nD τ sig := ((c : Thread nD τ), .dma (sndS p k))
abbrev rcvCell (p k : Fin 6) (c : Dev nD) : GSem nD τ sig := ((c : Thread nD τ), .dma (rcvS p k))

/-- The kernel's own semaphores in order, and with the barrier semaphore added. -/
abbrev osem : Fin 72 → SemLoc sig := fun j => .dma ⟨3 + j.val, by have := j.isLt; show _ < 75; omega⟩
abbrev csem : Option (Fin 72) → SemLoc sig := fun | none => .reg barS | some j => osem j
abbrev kcell (ck : Dev nD × Option (Fin 72)) : GSem nD τ sig := ((ck.1 : Thread nD τ), csem ck.2)

def sndJ (p k : Fin 6) : Fin 72 := ⟨6 * p.val + k.val, by have := p.isLt; have := k.isLt; omega⟩
def rcvJ (p k : Fin 6) : Fin 72 := ⟨36 + (6 * p.val + k.val), by have := p.isLt; have := k.isLt; omega⟩

theorem kcell_snd (p k : Fin 6) (c : Dev nD) : kcell (c, some (sndJ p k)) = sndCell p k c := rfl
theorem kcell_rcv (p k : Fin 6) (c : Dev nD) : kcell (c, some (rcvJ p k)) = rcvCell p k c :=
  congrArg (fun q => (((c : Thread nD τ), SemLoc.dma q) : GSem nD τ sig)) (Fin.ext (by show 3 + (36 + (6 * p.val + k.val)) = 39 + (6 * p.val + k.val); omega))

/-- The part and the stage a DMA semaphore serves. -/
def pOf (q : DmaSem sig) : Fin 6 := ⟨(q.val - 3) / 6 % 6, Nat.mod_lt _ (by decide)⟩
def kOf (q : DmaSem sig) : Fin 6 := ⟨(q.val - 3) % 6, Nat.mod_lt _ (by decide)⟩

theorem pOf_snd (p k : Fin 6) : pOf (sndS p k) = p := by revert p k; decide
theorem kOf_snd (p k : Fin 6) : kOf (sndS p k) = k := by revert p k; decide
theorem pOf_rcv (p k : Fin 6) : pOf (rcvS p k) = p := by revert p k; decide
theorem kOf_rcv (p k : Fin 6) : kOf (rcvS p k) = k := by revert p k; decide

/-- The credit of a block of `n` rows and 512 columns. -/
def crd (n : ℕ) : ℕ :=
  sig.dmaCredit .tc (Kind.table .tc .vmem) (Memref.whole cc0_scratch1 : Memref sig .tc .vmem S896x1024 .bf16).view.buf (⟨2, ![n, 512]⟩ : Shape) .bf16

/-- The number of rows stage `k` of part `p` moves. -/
abbrev nr (p : Fin 6) (k : ℕ) : ℕ := sz p (lvl k + 1)

theorem crd_pos (p : Fin 6) (k : ℕ) : 0 < crd (nr p k) := by
  unfold crd
  refine sig.dmaCredit_pos _ _ _ _ _ ?_
  have h : 0 < nr p k := by
    show 0 < sz p (lvl k + 1)
    have hk : lvl k < 3 := by unfold lvl; omega
    exact sz_pos p ⟨lvl k + 1, by omega⟩
  refine Shape.numel_pos fun a => ?_
  match a with
  | ⟨0, _⟩ => exact h
  | ⟨1, _⟩ => exact (by decide : 0 < 512)

/-! ## What each cell hands over -/

/-- Signal `m` of the barrier: the sender opens, for the receiver, the landing blocks of the steps they exchange at. -/
def barPay (c : Dev nD) (m : Fin 3) : sProp 𝕄 :=
  bigSep Finset.univ fun p : Fin 6 => iprop(∃ f, rPts (peer m c) (boff p (tm p m)) (sz p (tm p m + 1)) (col p) f)

/-- A landed block: the partner's running sum over the rows kept. -/
def landedPts (X : Dev nD → OB F) (p : Fin 6) (t : ℕ) (c : Dev nD) : sProp 𝕄 :=
  iprop(∃ f, ⌜Landed f (acc X p t (pr p t c)) (boff p t) (cur p c (t + 1)) (sz p (t + 1)) (col p)⌝ ∗ rPts c (boff p t) (sz p (t + 1)) (col p) f)

/-- Rows of the result a device owns, contents not recorded. -/
def someO (d : Dev nD) (r n q : ℕ) : sProp 𝕄 := iprop(∃ f, oPts d r n q f)

/-- Stage `k` of part `p` on device `c`. Going down, the receiver gets the landed block and, to write into later, the
rows the sender gave away. Going up, the sender gets its own rows back and the receiver the finished rows. -/
def sndPay (X : Dev nD → OB F) (p k : Fin 6) (c : Dev nD) : sProp 𝕄 :=
  if k.val < 3 then iprop(emp) else oPts c (cur p c (lvl k.val + 1)) (nr p k.val) (col p) (res X p)
def rcvPay (X : Dev nD → OB F) (p k : Fin 6) (c : Dev nD) : sProp 𝕄 :=
  if k.val < 3 then iprop(landedPts X p k.val c ∗ someO (pr p k.val c) (cur p c (k.val + 1)) (sz p (k.val + 1)) (col p))
  else oPts c (giv p c (lvl k.val)) (nr p k.val) (col p) (res X p)

/-- One round per cell. A barrier cell has three duties of one unit; a DMA cell of the kernel one, of its block's credit. -/
def Rd (X : Dev nD → OB F) : Rounds.Schedule (GSem nD τ sig) (Fin 3) 𝕄 where
  duties g r := if r = 0 ∧ g.1.2 = .tc then
      match g.2 with
      | .reg s => if s = barS then Finset.univ else ∅
      | .dma q => if 3 ≤ q.val then {0} else ∅
    else ∅
  unitless _ := False
  amount g _ _ := match g.2 with
    | .reg _ => 1
    | .dma q => crd (nr (pOf q) (kOf q).val)
  payload g _ d := match g.2 with
    | .reg _ => barPay g.1.1 d
    | .dma q => if 39 ≤ q.val then rcvPay X (pOf q) (kOf q) g.1.1 else sndPay X (pOf q) (kOf q) g.1.1
  amount_pos g _ _ _ := by
    rcases g with ⟨t, s | q⟩
    · exact Nat.one_pos
    · exact crd_pos _ _

instance Rd_payload_storable (X : Dev nD → OB F) (g : GSem nD τ sig) (r : ℕ) (d : Fin 3) :
    BI.Storable (upEmb : UEmb _ 𝕄) ((Rd (F := F) X).payload g r d) := by
  rcases g with ⟨t, s | q⟩
  · show BI.Storable upEmb (barPay t.1 d)
    unfold barPay; infer_instance
  · show BI.Storable upEmb (if 39 ≤ q.val then rcvPay X (pOf q) (kOf q) t.1 else sndPay X (pOf q) (kOf q) t.1)
    unfold rcvPay sndPay landedPts someO
    (repeat' split) <;> infer_instance

section Sched
variable (X : Dev nD → OB F) (p k : Fin 6) (c : Dev nD)

theorem duties_bar : (Rd X).duties (barCell c) 0 = Finset.univ := by
  dsimp only [Rd]; rw [if_pos ⟨rfl, rfl⟩]; exact if_pos rfl
theorem duties_snd : (Rd X).duties (sndCell p k c) 0 = {0} := by
  dsimp only [Rd]; rw [if_pos ⟨rfl, rfl⟩]; exact if_pos (by show 3 ≤ 3 + (6 * p.val + k.val); omega)
theorem duties_rcv : (Rd X).duties (rcvCell p k c) 0 = {0} := by
  dsimp only [Rd]; rw [if_pos ⟨rfl, rfl⟩]; exact if_pos (by show 3 ≤ 39 + (6 * p.val + k.val); omega)
theorem duties_later (g : GSem nD τ sig) : ∀ r, 1 ≤ r → (Rd X).duties g r = ∅ :=
  fun r hr => if_neg fun h => by omega

theorem amount_bar (d : Fin 3) : (Rd X).amount (barCell c) 0 d = 1 := rfl
theorem amount_snd (d : Fin 3) : (Rd X).amount (sndCell p k c) 0 d = crd (nr p k.val) := by
  show crd (nr (pOf (sndS p k)) (kOf (sndS p k)).val) = _; rw [pOf_snd, kOf_snd]
theorem amount_rcv (d : Fin 3) : (Rd X).amount (rcvCell p k c) 0 d = crd (nr p k.val) := by
  show crd (nr (pOf (rcvS p k)) (kOf (rcvS p k)).val) = _; rw [pOf_rcv, kOf_rcv]

theorem expect_bar : (Rd X).expect (barCell c) 0 = 3 := by
  unfold Schedule.expect Schedule.amountOf
  rw [duties_bar, Finset.sum_congr rfl fun d _ => amount_bar X c d]; rfl
theorem expect_snd : (Rd X).expect (sndCell p k c) 0 = crd (nr p k.val) := by
  unfold Schedule.expect Schedule.amountOf; rw [duties_snd, Finset.sum_singleton, amount_snd]
theorem expect_rcv : (Rd X).expect (rcvCell p k c) 0 = crd (nr p k.val) := by
  unfold Schedule.expect Schedule.amountOf; rw [duties_rcv, Finset.sum_singleton, amount_rcv]

theorem payload_bar (d : Fin 3) : (Rd X).payload (barCell c) 0 d = barPay c d := rfl
theorem payload_snd (d : Fin 3) : (Rd X).payload (sndCell p k c) 0 d = sndPay X p k c := by
  show (if 39 ≤ (sndS p k).val then rcvPay X (pOf (sndS p k)) (kOf (sndS p k)) c else sndPay X (pOf (sndS p k)) (kOf (sndS p k)) c) = _
  rw [pOf_snd, kOf_snd, if_neg (by have := p.isLt; have := k.isLt; show ¬ 39 ≤ 3 + (6 * p.val + k.val); omega)]
theorem payload_rcv (d : Fin 3) : (Rd X).payload (rcvCell p k c) 0 d = rcvPay X p k c := by
  show (if 39 ≤ (rcvS p k).val then rcvPay X (pOf (rcvS p k)) (kOf (rcvS p k)) c else sndPay X (pOf (rcvS p k)) (kOf (rcvS p k)) c) = _
  rw [pOf_rcv, kOf_rcv, if_pos (by show 39 ≤ 39 + _; omega)]

theorem rest_bar : bigSep ((Rd X).duties (barCell c) 0 \ ∅) (fun d => (Rd X).payload (barCell c) 0 d) = bigSep Finset.univ (barPay (F := F) c) := by
  rw [Finset.sdiff_empty, duties_bar]; rfl
theorem rest_snd : bigSep ((Rd X).duties (sndCell p k c) 0 \ ∅) (fun d => (Rd X).payload (sndCell p k c) 0 d) = sndPay X p k c := by
  rw [Finset.sdiff_empty, duties_snd, bigSep_singleton, payload_snd]
theorem rest_rcv : bigSep ((Rd X).duties (rcvCell p k c) 0 \ ∅) (fun d => (Rd X).payload (rcvCell p k c) 0 d) = rcvPay X p k c := by
  rw [Finset.sdiff_empty, duties_rcv, bigSep_singleton, payload_rcv]

end Sched

/-! ## What a device owes, and the levels -/

/-- The transfers of part `p` still to be issued at phase `n`: stage `k` is issued at phase `4 k + 1`. -/
def owedAt (p k : Fin 6) (c : Dev nD) (n : ℕ) : CellTallies nD τ sig Unit :=
  if n ≤ 4 * k.val + 1 then tallyAt (rcvCell p k (pr p (lvl k.val) c)) () (crd (nr p k.val)) else 0

/-- What device `c` owes when part `p` is at phase `φ p`: the credit of every transfer not yet issued. -/
def owed (φ : Fin 6 → ℕ) (c : Dev nD) : CellTallies nD τ sig Unit :=
  ∑ pk : Fin 6 × Fin 6, owedAt pk.1 pk.2 c (φ pk.1)

def L (g : GSem nD τ sig) : Finset Unit := if g.1.2 = .tc then {()} else ∅
/-- Barrier cells at 1, the receive cells of stage `k` at `2 + k`, everything else at 0. -/
def lv (g : GSem nD τ sig) (_ : Unit) : ℕ := match g.2 with
  | .reg _ => 1
  | .dma q => if 39 ≤ q.val then 2 + (kOf q).val else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (p k : Fin 6) (c : Dev nD) (u : Unit) : lv (rcvCell p k c) u = 2 + k.val := by
  show (if 39 ≤ (rcvS p k).val then 2 + (kOf (rcvS p k)).val else 0) = _
  rw [if_pos (by show 39 ≤ 39 + _; omega), kOf_rcv]
theorem lv_snd (p k : Fin 6) (c : Dev nD) (u : Unit) : lv (sndCell p k c) u = 0 := by
  show (if 39 ≤ (sndS p k).val then 2 + (kOf (sndS p k)).val else 0) = _
  rw [if_neg (by have := p.isLt; have := k.isLt; show ¬ 39 ≤ 3 + (6 * p.val + k.val); omega)]

theorem owed_pos {φ : Fin 6 → ℕ} {c : Dev nD} {g : GSem nD τ sig} {u : Unit} (h : 0 < owed φ c g u) :
    ∃ p k : Fin 6, φ p ≤ 4 * k.val + 1 ∧ g = rcvCell p k (pr p (lvl k.val) c) := by
  by_contra hn
  refine Nat.lt_irrefl 0 (lt_of_lt_of_eq h ?_)
  unfold owed
  rw [Finset.sum_apply, Finsupp.finset_sum_apply]
  refine Finset.sum_eq_zero fun pk _ => ?_
  unfold owedAt
  split
  · next hle =>
    rw [tallyAt_apply, if_neg]
    exact fun h' => hn ⟨pk.1, pk.2, hle, h'.1⟩
  · rfl

/-- Waiting on a cell of level `b` is fine when every transfer still owed is of a higher level. -/
theorem mayWait (c : Dev nD) (sm : SemLoc sig) (φ : Fin 6 → ℕ) (b : ℕ) (hb : ∀ u, lv ((c : Thread nD τ), sm) u ≤ b)
    (hφ : ∀ p k : Fin 6, φ p ≤ 4 * k.val + 1 → b < 2 + k.val) :
    (levAts L lv : sProp 𝕄) ⊢ MayWait (c : Thread nD τ) sm () (owed φ c) :=
  MayOwe.of_cut (L := L) (lev := lv) b (fun q hq => by rw [Finset.mem_singleton.mp hq, L_tc]; exact Finset.mem_singleton_self _)
    (fun g u hg => by obtain ⟨p, k, -, rfl⟩ := owed_pos hg; exact Finset.mem_singleton_self _)
    (fun q hq => by rw [Finset.mem_singleton.mp hq]; exact hb _)
    (fun g u hg => by obtain ⟨p, k, hk, rfl⟩ := owed_pos hg; rw [lv_rcv]; exact hφ p k hk)

/-! ## The state of a device -/

/-- The ghost state of stage `k` of part `p` before its transfer, between the transfer and the wait for its sending,
between that wait and the wait for the partner's, and after both. -/
def stage0 (p k : Fin 6) (c : Dev nD) : sProp 𝕄 :=
  iprop(dutyTok ER (sndCell p k c) 0 0 ∗ dutyTok ER (rcvCell p k (pr p (lvl k.val) c)) 0 0
    ∗ atPos ER (sndCell p k c) 0 ∅ 0 ∗ atPos ER (rcvCell p k c) 0 ∅ 0 ∗ cred (tallyAt (rcvCell p k c) () (crd (nr p k.val)))
    ∗ (if k.val < 3 then iprop(∃ f, rPts (pr p k.val c) (boff p k.val) (sz p (k.val + 1)) (col p) f) else iprop(emp)))
def stage1 (p k : Fin 6) (c : Dev nD) : sProp 𝕄 :=
  iprop(cred (tallyAt (sndCell p k c) () (crd (nr p k.val))) ∗ atPos ER (sndCell p k c) 0 ∅ 0
    ∗ atPos ER (rcvCell p k c) 0 ∅ 0 ∗ cred (tallyAt (rcvCell p k c) () (crd (nr p k.val))))
def stage2 (p k : Fin 6) (c : Dev nD) : sProp 𝕄 :=
  iprop(semVal (sndCell p k c) 0 ∗ atPos ER (rcvCell p k c) 0 ∅ 0 ∗ cred (tallyAt (rcvCell p k c) () (crd (nr p k.val))))
def stage3 (X : Dev nD → OB F) (p k : Fin 6) (c : Dev nD) : sProp 𝕄 :=
  iprop(semVal (sndCell p k c) 0 ∗ semVal (rcvCell p k c) 0 ∗ (if k.val < 3 then landedPts X p k.val c else iprop(emp)))
def stage (X : Dev nD → OB F) (p k : Fin 6) (c : Dev nD) (n : ℕ) : sProp 𝕄 :=
  if n ≤ 4 * k.val + 1 then stage0 p k c else if n = 4 * k.val + 2 then stage1 p k c
  else if n = 4 * k.val + 3 then stage2 p k c else stage3 X p k c

/-- The partner's rows that device `c` may write into, held from step `t` down until the same step up. -/
def lent (p : Fin 6) (t : Fin 3) (c : Dev nD) (n : ℕ) : sProp 𝕄 :=
  if 4 * t.val + 4 ≤ n ∧ n ≤ 4 * (5 - t.val) + 1 then someO (pr p t.val c) (cur p c (t.val + 1)) (sz p (t.val + 1)) (col p) else iprop(emp)

/-- The rows of part `p` that device `c` holds after `s` halvings, with contents `f`. -/
abbrev lvlPts (p : Fin 6) (c : Dev nD) (s : ℕ) (f : OB F) : sProp 𝕄 := oPts c (cur p c s) (sz p s) (col p) f

/-- Device `c`'s own rows of part `p` at phase `n`. -/
def held (X : Dev nD → OB F) (p : Fin 6) (c : Dev nD) (n : ℕ) : sProp 𝕄 :=
  if n = 0 then someO c (base p) (rows p) (col p)
  else if (n - 1) / 4 < 3 then
    (if (n - 1) % 4 = 0 then lvlPts p c ((n - 1) / 4) (acc X p ((n - 1) / 4) c) else lvlPts p c ((n - 1) / 4 + 1) (acc X p ((n - 1) / 4) c))
  else if (n - 1) % 4 = 1 then iprop(emp) else lvlPts p c (6 - (n - 1) / 4) (res X p)

def part (X : Dev nD → OB F) (p : Fin 6) (c : Dev nD) (n : ℕ) : sProp 𝕄 :=
  iprop(bigSep Finset.univ (fun k : Fin 6 => stage X p k c n) ∗ bigSep Finset.univ (fun t : Fin 3 => lent p t c n) ∗ held X p c n)

/-- The invariants of all cells and that each has reached round 0. -/
def recs (X : Dev nD → OB F) (K : Dev nD × Option (Fin 72) → ℕ) : sProp 𝕄 :=
  iprop(bigSep Finset.univ (fun ck => cellInv ER (Rd X) (K ck) (kcell ck)) ∗ bigSep Finset.univ (fun ck => reached ER (kcell ck) 0))

instance recs_persistent (X : Dev nD → OB F) (K : Dev nD × Option (Fin 72) → ℕ) : BI.Persistent (recs X K) := by unfold recs; infer_instance

theorem inv_at (X : Dev nD → OB F) (K : Dev nD × Option (Fin 72) → ℕ) (ck : Dev nD × Option (Fin 72)) :
    recs X K ⊢ cellInv ER (Rd X) (K ck) (kcell ck) :=
  BI.sep_and.trans (and_elimL.trans (bigSep_elim (Finset.mem_univ ck)))
theorem reached_at (X : Dev nD → OB F) (K : Dev nD × Option (Fin 72) → ℕ) (ck : Dev nD × Option (Fin 72)) :
    recs X K ⊢ (reached ER (kcell ck) 0 : sProp 𝕄) :=
  BI.sep_and.trans (and_elimR.trans (bigSep_elim (Finset.mem_univ ck)))

/-- The inputs' staging buffers and the copy of the second one. -/
def inp (c : Dev nD) (a : Vec F S1024x512 .bf16) (b g : Vec F S512x1024 .bf16) : sProp 𝕄 :=
  iprop((((c : Thread nD τ).loc cc0_stg0_0) ↦{fullShare} a) ∗ (((c : Thread nD τ).loc cc0_stg1_0) ↦{fullShare} b) ∗ (((c : Thread nD τ).loc cc0_scratch0) ↦{fullShare} g))

/-- The whole state of device `c` past the barrier, part `p` at phase `φ p`. -/
def St (X : Dev nD → OB F) (K : Dev nD × Option (Fin 72) → ℕ) (R : sProp 𝕄) (φ : Fin 6 → ℕ) (c : Dev nD) : sProp 𝕄 :=
  iprop(bigSep Finset.univ (fun p => part X p c (φ p)) ∗ (∃ W, owes (c : Thread nD τ) (owed φ c) W) ∗ recs X K ∗ levAts L lv ∗ R)

end Cert.AllReduce

end
-- ==== Proof.Regions.lean ====
/-
Rows and columns of the two buffers: the printed rectangles as regions, cutting and joining regions, and what reads
and writes through a printed rectangle do to the contents.
-/
module

public import proofs.«01_k».proof.Proof.Proto

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev oM : Memref sig .tc .vmem S1024x1024 .bf16 := Memref.whole cc0_stg2_0
abbrev rM : Memref sig .tc .vmem S896x1024 .bf16 := Memref.whole cc0_scratch1

/-! ## Entries -/

theorem oSet_ix {r n q : ℕ} {i : S1024x1024.Idx} (h : i ∈ oSet r n q) :
    ∃ x y, x < n ∧ y < 512 ∧ i = ixO (r + x) (q + y) := by
  have h' := (Finset.mem_filter.mp h).2
  have h0 : (i 0).val < 1024 := (i 0).isLt
  have h1 : (i 1).val < 1024 := (i 1).isLt
  refine ⟨(i 0).val - r, (i 1).val - q, by omega, by omega, ?_⟩
  funext a
  refine Fin.ext ?_
  match a with
  | ⟨0, _⟩ => show (i 0).val = (r + ((i 0).val - r)) % 1024; rw [Nat.mod_eq_of_lt (by omega)]; omega
  | ⟨1, _⟩ => show (i 1).val = (q + ((i 1).val - q)) % 1024; rw [Nat.mod_eq_of_lt (by omega)]; omega

theorem rSet_ix {r n q : ℕ} {i : S896x1024.Idx} (h : i ∈ rSet r n q) :
    ∃ x y, x < n ∧ y < 512 ∧ i = ixR (r + x) (q + y) := by
  have h' := (Finset.mem_filter.mp h).2
  have h0 : (i 0).val < 896 := (i 0).isLt
  have h1 : (i 1).val < 1024 := (i 1).isLt
  refine ⟨(i 0).val - r, (i 1).val - q, by omega, by omega, ?_⟩
  funext a
  refine Fin.ext ?_
  match a with
  | ⟨0, _⟩ => show (i 0).val = (r + ((i 0).val - r)) % 896; rw [Nat.mod_eq_of_lt (by omega)]; omega
  | ⟨1, _⟩ => show (i 1).val = (q + ((i 1).val - q)) % 1024; rw [Nat.mod_eq_of_lt (by omega)]; omega

/-! ## The printed rectangles -/

section Rects
variable {r n q : ℕ}

/-- Rows `r … r + n - 1`, columns `q … q + 511`, as the program writes it. -/
abbrev oR (off : Fin 2 → ℕ) (n : ℕ) (inb : ∀ a, off a + (![n, 512] : Fin 2 → ℕ) a ≤ S1024x1024.size a) : Rect S1024x1024 :=
  Rect.unit (s := S1024x1024) off ![n, 512] inb
abbrev rR (off : Fin 2 → ℕ) (n : ℕ) (inb : ∀ a, off a + (![n, 512] : Fin 2 → ℕ) a ≤ S896x1024.size a) : Rect S896x1024 :=
  Rect.unit (s := S896x1024) off ![n, 512] inb

theorem oR_set (inb) : (oR ![r, q] n inb).set = oSet r n q := by
  ext i
  rw [Rect.mem_set_unit]
  unfold oSet
  rw [Finset.mem_filter]
  exact ⟨fun h => ⟨Finset.mem_univ _, h 0, h 1⟩, fun h a => match a with | ⟨0, _⟩ => h.2.1 | ⟨1, _⟩ => h.2.2⟩
theorem rR_set (inb) : (rR ![r, q] n inb).set = rSet r n q := by
  ext i
  rw [Rect.mem_set_unit]
  unfold rSet
  rw [Finset.mem_filter]
  exact ⟨fun h => ⟨Finset.mem_univ _, h 0, h 1⟩, fun h a => match a with | ⟨0, _⟩ => h.2.1 | ⟨1, _⟩ => h.2.2⟩

theorem oV_set (inb) : ((oM.access (oR ![r, q] n inb)) : View sig .tc _ _ _).set = oSet r n q :=
  (View.set_slice_whole _ _).trans (oR_set inb)
theorem rV_set (inb) : ((rM.access (rR ![r, q] n inb)) : View sig .tc _ _ _).set = rSet r n q :=
  (View.set_slice_whole _ _).trans (rR_set inb)

/-- Entry `j` of the rectangle is entry `(r + j 0, q + j 1)` of the buffer. -/
theorem oV_emb (inb) (j : (⟨2, ![n, 512]⟩ : Shape).Idx) :
    ((oM.access (oR ![r, q] n inb)) : View sig .tc _ _ _).emb j = ixO (r + (j 0).val) (q + (j 1).val) := by
  have h0 : r + n ≤ 1024 := inb 0
  have h1 : q + 512 ≤ 1024 := inb 1
  have hj0 : (j 0).val < n := (j 0).isLt
  have hj1 : (j 1).val < 512 := (j 1).isLt
  funext a
  refine Fin.ext ?_
  match a with
  | ⟨0, _⟩ => show r + 1 * (j 0).val = (r + (j 0).val) % 1024; rw [Nat.mod_eq_of_lt (by omega)]; omega
  | ⟨1, _⟩ => show q + 1 * (j 1).val = (q + (j 1).val) % 1024; rw [Nat.mod_eq_of_lt (by omega)]; omega
theorem rV_emb (inb) (j : (⟨2, ![n, 512]⟩ : Shape).Idx) :
    ((rM.access (rR ![r, q] n inb)) : View sig .tc _ _ _).emb j = ixR (r + (j 0).val) (q + (j 1).val) := by
  have h0 : r + n ≤ 896 := inb 0
  have h1 : q + 512 ≤ 1024 := inb 1
  have hj0 : (j 0).val < n := (j 0).isLt
  have hj1 : (j 1).val < 512 := (j 1).isLt
  funext a
  refine Fin.ext ?_
  match a with
  | ⟨0, _⟩ => show r + 1 * (j 0).val = (r + (j 0).val) % 896; rw [Nat.mod_eq_of_lt (by omega)]; omega
  | ⟨1, _⟩ => show q + 1 * (j 1).val = (q + (j 1).val) % 1024; rw [Nat.mod_eq_of_lt (by omega)]; omega

/-- Entry `(x, y)` of a block. -/
def ixB (n x y : ℕ) (hx : x < n) (hy : y < 512) : (⟨2, ![n, 512]⟩ : Shape).Idx := ValueIdx.ix2 (⟨x, hx⟩ : Fin n) (⟨y, hy⟩ : Fin 512)

/-- `w` is the block of `g` whose first entry is `(r, q)`. -/
def IsBlk (w : (⟨2, ![n, 512]⟩ : Shape).Idx → Elt F .bf16) (g : OB F) (r q : ℕ) : Prop := ∀ j, w j = g (ixO (r + (j 0).val) (q + (j 1).val))

theorem read_o (inb) (f : OB F) : IsBlk ((oM.access (oR ![r, q] n inb)).read (Elt F) f) f r q := fun j => by
  rw [View.read_apply, oV_emb]; rfl
theorem read_r (inb) {f : RB F} {g : OB F} {r' : ℕ} (h : Landed f g r r' n q) : IsBlk ((rM.access (rR ![r, q] n inb)).read (Elt F) f) g r' q := fun j => by
  rw [View.read_apply, rV_emb]
  exact h (j 0).val (j 1).val (j 0).isLt (j 1).isLt
/-- Writing a block of `g` over the region makes the contents `g` there. -/
theorem write_o (inb) (f g : OB F) {w : (⟨2, ![n, 512]⟩ : Shape).Idx → Elt F .bf16} (h : IsBlk w g r q) :
    ∀ i ∈ oSet r n q, ((oM.access (oR ![r, q] n inb)).write (Elt F) f w Finset.univ : OB F) i = g i := fun i hi => by
  obtain ⟨x, y, hx, hy, rfl⟩ := oSet_ix hi
  have he := oV_emb (n := n) inb (ixB n x y hx hy)
  rw [show (ixO (r + x) (q + y)) = ((oM.access (oR ![r, q] n inb)) : View sig .tc _ _ _).emb (ixB n x y hx hy) from he.symm]
  refine (View.write_emb_of_mem _ _ (Finset.mem_univ _)).trans ?_
  rw [he]
  exact h _
/-- A block of `g` written into the landing buffer is landed. -/
theorem write_r (inb) (f : RB F) {g : OB F} {r' : ℕ} {w : (⟨2, ![n, 512]⟩ : Shape).Idx → Elt F .bf16} (h : IsBlk w g r' q) :
    Landed ((rM.access (rR ![r, q] n inb)).write (Elt F) f w Finset.univ : RB F) g r r' n q := fun x y hx hy => by
  have he := rV_emb (n := n) inb (ixB n x y hx hy)
  rw [show (ixR (r + x) (q + y)) = ((rM.access (rR ![r, q] n inb)) : View sig .tc _ _ _).emb (ixB n x y hx hy) from he.symm]
  refine (View.write_emb_of_mem _ _ (Finset.mem_univ _)).trans ?_
  exact h _

end Rects

/-! ## Cutting and joining regions -/

theorem oPts_congr (d : Dev nD) {r n q : ℕ} {f g : OB F} (h : ∀ i ∈ oSet r n q, f i = g i) : (oPts d r n q f : sProp 𝕄) = oPts d r n q g := by
  unfold oPts; exact pointsTo_congr h

theorem oSet_cut (p : Fin 6) (t : Fin 3) (c : Dev nD) :
    oSet (cur p c t.val) (sz p t.val) (col p) = oSet (cur p c (t.val + 1)) (sz p (t.val + 1)) (col p) ∪ oSet (giv p c t.val) (sz p (t.val + 1)) (col p)
      ∧ Disjoint (oSet (cur p c (t.val + 1)) (sz p (t.val + 1)) (col p)) (oSet (giv p c t.val) (sz p (t.val + 1)) (col p)) := by
  have hc := cut p t c
  have hs := sz_half p t
  constructor
  · ext i
    unfold oSet
    simp only [Finset.mem_union, Finset.mem_filter, Finset.mem_univ, true_and]
    omega
  · refine Finset.disjoint_left.mpr fun i h h' => ?_
    unfold oSet at h h'
    have h1 := (Finset.mem_filter.mp h).2
    have h2 := (Finset.mem_filter.mp h').2
    omega

/-- The rows a device holds before a step are those it keeps and those it gives away. -/
theorem lvl_cut (p : Fin 6) (t : ℕ) (ht : t < 3) (c : Dev nD) (f : OB F) :
    (lvlPts p c t f : sProp 𝕄) ⊣⊢ iprop(lvlPts p c (t + 1) f ∗ oPts c (giv p c t) (sz p (t + 1)) (col p) f) := by
  have h := oSet_cut p ⟨t, ht⟩ c
  dsimp only at h
  show oPts _ _ _ _ _ ⊣⊢ _
  unfold lvlPts oPts
  rw [h.1]
  exact pointsTo_union h.2

/-- A region as the view the program forms. -/
theorem oPts_view (d : Dev nD) {r n q : ℕ} (inb) (hst) (f : OB F) :
    (oPts d r n q f : sProp 𝕄) = ((oM.slice (oR ![r, q] n inb) hst).view.loc (d : Thread nD τ) ↦[(oM.slice (oR ![r, q] n inb) hst).view.set]{fullShare} f) := by
  unfold oPts; rw [← oV_set inb]
theorem rPts_view (d : Dev nD) {r n q : ℕ} (inb) (hst) (f : RB F) :
    (rPts d r n q f : sProp 𝕄) = ((rM.slice (rR ![r, q] n inb) hst).view.loc (d : Thread nD τ) ↦[(rM.slice (rR ![r, q] n inb) hst).view.set]{fullShare} f) := by
  unfold rPts; rw [← rV_set inb]

end Cert.AllReduce

end
-- ==== Proof.Steps.lean ====
/-
The steps of the kernel as rules on the state: issuing a transfer, waiting for one, loading and storing.
-/
module

public import proofs.«01_k».proof.Proof.Regions

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Taking one conjunct out and putting another back -/

theorem bigSep_swap {I : Type} [Fintype I] [DecidableEq I] (Φ Ψ : I → sProp 𝕄) (i : I) (h : ∀ j, j ≠ i → Φ j = Ψ j) :
    bigSep Finset.univ Φ ⊢ iprop(Φ i ∗ (Ψ i -∗ bigSep Finset.univ Ψ)) := by
  rw [bigSep_univ_split (Φ := Φ) i, bigSep_univ_split (Φ := Ψ) i, bigSep_congr (s := Finset.univ.erase i) (Ψ := Ψ) fun j hj => h j (Finset.ne_of_mem_erase hj)]
  show iprop(Φ i ∗ bigSep (Finset.univ.erase i) Ψ) ⊢ iprop(Φ i ∗ (Ψ i -∗ (Ψ i ∗ bigSep (Finset.univ.erase i) Ψ)))
  iintro ⟨H, Hr⟩
  isplitl [H]; · iexact H
  iintro H
  isplitl [H]; · iexact H
  iexact Hr

section Open
variable (X : Dev nD → OB F) (K : Dev nD × Option (Fin 72) → ℕ) (R : sProp (MT nD τ sig Unit (Elt F) ℕ UU ℕ))

theorem St_open (p : Fin 6) {φ : Fin 6 → ℕ} (c : Dev nD) {n : ℕ} (n' : ℕ) (hφ : φ p = n) :
    St X K R φ c ⊢ iprop(∃ W, part X p c n ∗ owes (c : Thread nD τ) (owed φ c) W ∗ recs X K ∗ levAts L lv
      ∗ (∀ W', part X p c n' -∗ owes (c : Thread nD τ) (owed (Function.update φ p n') c) W' -∗ St X K R (Function.update φ p n') c)) := by
  subst hφ
  have hsw := bigSep_swap (fun p => part X p c (φ p)) (fun q => part X q c (Function.update φ p n' q)) p
    fun j hj => by rw [Function.update_of_ne hj]
  rw [Function.update_self] at hsw
  unfold St
  iintro ⟨Hp, ⟨%W, HO⟩, #Hrec, #Hlev, HR⟩
  ihave H := hsw $$ Hp
  icases H with ⟨Hp, Hcl⟩
  iexists W
  isplitl [Hp]; · iexact Hp
  isplitl [HO]; · iexact HO
  isplitr; · iexact Hrec
  isplitr; · iexact Hlev
  iintro %W' Hp HO
  isplitl [Hp Hcl]; · iapply Hcl; iexact Hp
  isplitl [HO]; · iexists W'; iexact HO
  isplitr; · iexact Hrec
  isplitr; · iexact Hlev
  iexact HR

/-- A stage does not change while another one runs. -/
theorem stage_other (p : Fin 6) (c : Dev nD) (k : Fin 6) {n n' : ℕ} (hn : 4 * k.val + 1 ≤ n ∧ n ≤ 4 * k.val + 5) (hn' : 4 * k.val + 1 ≤ n' ∧ n' ≤ 4 * k.val + 5)
    (j : Fin 6) (hj : j ≠ k) : stage X p j c n = stage X p j c n' := by
  have hne : j.val ≠ k.val := fun h => hj (Fin.ext h)
  unfold stage
  by_cases h : j.val < k.val
  · rw [if_neg (by omega), if_neg (by omega), if_neg (by omega), if_neg (by omega), if_neg (by omega), if_neg (by omega)]
  · rw [if_pos (by omega), if_pos (by omega)]

theorem part_open (p k : Fin 6) (c : Dev nD) {n : ℕ} (n' : ℕ) (hn : 4 * k.val + 1 ≤ n ∧ n ≤ 4 * k.val + 5) (hn' : 4 * k.val + 1 ≤ n' ∧ n' ≤ 4 * k.val + 5) :
    part X p c n ⊢ iprop(stage X p k c n ∗ bigSep Finset.univ (fun t : Fin 3 => lent p t c n) ∗ held X p c n
      ∗ (stage X p k c n' -∗ bigSep Finset.univ (fun t : Fin 3 => lent p t c n') -∗ held X p c n' -∗ part X p c n')) := by
  unfold part
  iintro ⟨Hs, Hl, Hh⟩
  ihave H := (bigSep_swap (fun j => stage X p j c n) (fun j => stage X p j c n') k (stage_other X p c k hn hn')) $$ Hs
  icases H with ⟨Hs, Hcl⟩
  isplitl [Hs]; · iexact Hs
  isplitl [Hl]; · iexact Hl
  isplitl [Hh]; · iexact Hh
  iintro Hs Hl Hh
  isplitl [Hs Hcl]; · iapply Hcl; iexact Hs
  isplitl [Hl]; · iexact Hl
  iexact Hh

theorem stage_0 (p k : Fin 6) (c : Dev nD) : stage X p k c (4 * k.val + 1) = stage0 p k c := by
  unfold stage; rw [if_pos (by omega)]
theorem stage_1 (p k : Fin 6) (c : Dev nD) : stage X p k c (4 * k.val + 2) = stage1 p k c := by
  unfold stage; rw [if_neg (by omega), if_pos rfl]
theorem stage_2 (p k : Fin 6) (c : Dev nD) : stage X p k c (4 * k.val + 3) = stage2 p k c := by
  unfold stage; rw [if_neg (by omega), if_neg (by omega), if_pos rfl]
theorem stage_3 (p k : Fin 6) (c : Dev nD) (n : ℕ) (h : 4 * k.val + 4 ≤ n) : stage X p k c n = stage3 X p k c := by
  unfold stage; rw [if_neg (by omega), if_neg (by omega), if_neg (by omega)]

/-- While the lending does not change. -/
theorem lent_same (p : Fin 6) (c : Dev nD) {n n' : ℕ} (h : ∀ t : Fin 3, (4 * t.val + 4 ≤ n ∧ n ≤ 4 * (5 - t.val) + 1) ↔ (4 * t.val + 4 ≤ n' ∧ n' ≤ 4 * (5 - t.val) + 1)) :
    bigSep Finset.univ (fun t : Fin 3 => (lent p t c n : sProp 𝕄)) ⊢ bigSep Finset.univ (fun t : Fin 3 => lent p t c n') :=
  Entails.of_eq (bigSep_congr fun t _ => by unfold lent; rw [if_congr (h t) rfl rfl])

theorem held_pre (p : Fin 6) (c : Dev nD) {k : ℕ} (hk : k < 3) : held X p c (4 * k + 1) = lvlPts p c k (acc X p k c) := by
  unfold held
  rw [if_neg (by omega), show (4 * k + 1 - 1) / 4 = k by omega, if_pos hk, if_pos (by omega)]
theorem held_post (p : Fin 6) (c : Dev nD) {k : ℕ} (hk : k < 3) {n : ℕ} (hn : 4 * k + 2 ≤ n ∧ n ≤ 4 * k + 4) : held X p c n = lvlPts p c (k + 1) (acc X p k c) := by
  unfold held
  rw [if_neg (by omega), show (n - 1) / 4 = k by omega, if_pos hk, if_neg (by omega)]
theorem held_up (p : Fin 6) (c : Dev nD) {k : ℕ} (hk : 3 ≤ k) {n : ℕ} (hn : n = 4 * k + 1 ∨ n = 4 * k + 3) : held X p c n = lvlPts p c (6 - k) (res X p) := by
  unfold held
  rw [if_neg (by omega), show (n - 1) / 4 = k by omega, if_neg (by omega), if_neg (by omega)]
theorem held_out (p : Fin 6) (c : Dev nD) {k : ℕ} (hk : 3 ≤ k) : held X p c (4 * k + 2) = (iprop(emp) : sProp 𝕄) := by
  unfold held
  rw [if_neg (by omega), show (4 * k + 2 - 1) / 4 = k by omega, if_neg (by omega), if_pos (by omega)]

end Open

/-! ## What is owed -/

theorem owed_same (c : Dev nD) (φ : Fin 6 → ℕ) (p : Fin 6) (n' : ℕ) (h : ∀ k : Fin 6, φ p ≤ 4 * k.val + 1 ↔ n' ≤ 4 * k.val + 1) :
    owed φ c = owed (Function.update φ p n') c := by
  unfold owed
  refine Finset.sum_congr rfl fun pk _ => ?_
  by_cases hp : pk.1 = p
  · rw [hp, Function.update_self]; unfold owedAt; rw [if_congr (h pk.2) rfl rfl]
  · rw [Function.update_of_ne hp]

theorem owed_send (c : Dev nD) (φ : Fin 6 → ℕ) (p k : Fin 6) (hφ : φ p = 4 * k.val + 1) :
    owed φ c = owed (Function.update φ p (4 * k.val + 2)) c + tallyAt (rcvCell p k (pr p (lvl k.val) c)) () (crd (nr p k.val)) := by
  unfold owed
  rw [← Finset.add_sum_erase Finset.univ _ (Finset.mem_univ (p, k)), ← Finset.add_sum_erase Finset.univ (fun pk : Fin 6 × Fin 6 => owedAt pk.1 pk.2 c (Function.update φ p (4 * k.val + 2) pk.1)) (Finset.mem_univ (p, k))]
  have h1 : owedAt p k c (φ p) = tallyAt (rcvCell p k (pr p (lvl k.val) c)) () (crd (nr p k.val)) := by
    unfold owedAt; rw [if_pos (le_of_eq hφ)]
  have h2 : owedAt p k c (Function.update φ p (4 * k.val + 2) p) = 0 := by
    unfold owedAt; rw [Function.update_self, if_neg (by omega)]
  have h3 : ∑ pk ∈ Finset.univ.erase (p, k), owedAt pk.1 pk.2 c (φ pk.1)
      = ∑ pk ∈ Finset.univ.erase (p, k), owedAt pk.1 pk.2 c (Function.update φ p (4 * k.val + 2) pk.1) := by
    refine Finset.sum_congr rfl fun pk hpk => ?_
    by_cases hp : pk.1 = p
    · have hk : pk.2.val ≠ k.val := fun h => Finset.ne_of_mem_erase hpk (Prod.ext hp (Fin.ext h))
      rw [hp, Function.update_self, hφ]; unfold owedAt
      rw [if_congr (show 4 * k.val + 1 ≤ 4 * pk.2.val + 1 ↔ 4 * k.val + 2 ≤ 4 * pk.2.val + 1 by omega) rfl rfl]
    · rw [Function.update_of_ne hp]
  dsimp only
  rw [h1, h2, h3, zero_add, add_comm]

/-! ## The rules -/

section Rules
variable {X : Dev nD → OB F} {K : Dev nD × Option (Fin 72) → ℕ} {R : sProp (MT nD τ sig Unit (Elt F) ℕ UU ℕ)}
variable {α : Type} {Q : α → sProp (MT nD τ sig Unit (Elt F) ℕ UU ℕ)}

abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

set_option maxHeartbeats 1000000 in
/-- Going down, a device sends its partner the rows it gives away. -/
theorem step_send_down (p k : Fin 6) (hk3 : k.val < 3) {φ φ' : Fin 6 → ℕ} {c n : Dev nD} {r : ℕ} {off roff : Fin 2 → ℕ} {inb} {rinb} {hst} {hst'}
    {sS sR : DmaSem sig} {hsc : ((rM.slice (rR roff r rinb) hst') : Memref sig (Dev.tc n : Thread nD τ).2.kind .vmem _ .bf16).view.ref.isScScratch = false}
    {hsrc : ((oM.slice (oR off r inb) hst) : Memref sig .tc .vmem _ .bf16).view.WordExact} {hdst : (rM.slice (rR roff r rinb) hst').view.WordExact}
    {hsem : DmaTarget.Typed .vmem (.dma sR) (.remote (Dev.tc n : Thread nD τ) (rM.slice (rR roff r rinb) hst') (.dma sS) hsc)}
    {kk : PUnit → Prog (TpuEff nD τ sig (Elt F) Λ₀ .tc) α}
    (hφ : φ p = 4 * k.val + 1) (hφ' : φ' = Function.update φ p (4 * k.val + 2))
    (hr : r = sz p (k.val + 1)) (hoff : off = ![giv p c k.val, col p]) (hroff : roff = ![boff p k.val, col p]) (hn : n = pr p k.val c)
    (hsS : sS = sndS p k) (hsR : sR = rcvS p k)
    (h : St X K R φ' c ⊢ WP c (kk ⟨⟩) Q) :
    St X K R φ c ⊢ WP c (.op (.enqueueDma (oM.slice (oR off r inb) hst) (.remote (Dev.tc n : Thread nD τ) (rM.slice (rR roff r rinb) hst') (.dma sS) hsc) (.dma sR) hsrc hdst hsem) kk) Q := by
  subst hφ' hr hoff hroff hn hsS hsR
  have hl : lvl k.val = k.val := by unfold lvl; omega
  have hgiv : giv p (pr p k.val c) k.val = cur p c (k.val + 1) := giv_pr p ⟨k.val, hk3⟩ c
  have hcur : cur p (pr p k.val c) (k.val + 1) = giv p c k.val := cur_pr p ⟨k.val, hk3⟩ c
  have hpp : pr p k.val (pr p k.val c) = c := peer_peer _ c
  have hA := St_open X K R p c (4 * k.val + 2) hφ
  rw [owed_send c φ p k hφ, hl] at hA
  have hB := part_open X p k c (4 * k.val + 2) ⟨Nat.le_refl (4 * k.val + 1), by omega⟩ ⟨by omega, by omega⟩
  rw [stage_0, stage_1, held_pre X p c hk3, held_post X p c hk3 ⟨by omega, by omega⟩] at hB
  unfold stage0 stage1 at hB
  rw [hl, if_pos hk3] at hB
  have hi1 := inv_at X K (c, some (sndJ p k))
  have hi2 := inv_at X K (pr p k.val c, some (rcvJ p k))
  have hr1 := reached_at X K (c, some (sndJ p k))
  have hr2 := reached_at X K (pr p k.val c, some (rcvJ p k))
  rw [kcell_snd] at hi1 hr1
  rw [kcell_rcv] at hi2 hr2
  iintro Hs
  ihave H := hA $$ Hs
  icases H with ⟨%W, Hp, HO, #Hrec, #Hlev, Hcl⟩
  ihave H := hB $$ Hp
  icases H with ⟨⟨Ht1, Ht2, Ha1, Ha2, Hc2, ⟨%fd, Hd⟩⟩, Hlent, Hh, Hpc⟩
  ihave Hh := (lvl_cut p k.val hk3 c (acc X p k.val c)).1 $$ Hh
  icases Hh with ⟨Hkeep, Hgiv⟩
  ihave #Hi1 := hi1 $$ Hrec
  ihave #Hi2 := hi2 $$ Hrec
  ihave #Hr1 := hr1 $$ Hrec
  ihave #Hr2 := hr2 $$ Hrec
  ihave Hgiv := (Entails.of_eq (oPts_view c inb hst _)) $$ Hgiv
  ihave Hd := (Entails.of_eq (rPts_view (pr p k.val c) rinb hst' fd)) $$ Hd
  iapply (Rounds.wp_send_landing_pointsTo 𝒱₀ ER (Rd X) (c : Thread nD τ) none (κ₁ := K (c, some (sndJ p k))) (κ₂ := K (pr p k.val c, some (rcvJ p k)))
    (r₁ := 0) (r₂ := 0) (d₁ := 0) (d₂ := 0) (fd := fd) (fs := acc X p k.val c) (q := fullShare)
    (by rw [duties_snd]; exact Finset.mem_singleton_self _) (by rw [duties_rcv]; exact Finset.mem_singleton_self _)
    () () (crd (nr p k.val)) (by rw [show nr p k.val = sz p (k.val + 1) by unfold nr; rw [hl]]; rfl) (amount_snd X p k c 0) (amount_rcv X p k (pr p k.val c) 0)
    (owed (Function.update φ p (4 * k.val + 2)) c) rfl (W := W)
    (by rw [payload_snd]; unfold sndPay; rw [if_pos hk3])
    (by
      rw [payload_rcv]; unfold rcvPay landedPts someO; rw [if_pos hk3, hpp, hcur]
      iintro ⟨Hd, Hs⟩
      isplitl [Hd]
      · iexists ((rM.slice (rR ![boff p k.val, col p] (sz p (k.val + 1)) rinb) hst').view.write (Elt F) fd
          ((oM.slice (oR ![giv p c k.val, col p] (sz p (k.val + 1)) inb) hst).view.read (Elt F) (acc X p k.val c)) Finset.univ)
        isplitr
        · ipureintro
          exact write_r _ fd (read_o _ (acc X p k.val c))
        · iapply (Entails.of_eq (rPts_view (pr p k.val c) rinb hst' _).symm); iexact Hd
      · iexists _
        iapply (Entails.of_eq (oPts_view c inb hst _).symm); iexact Hs))
    $$ [Hgiv Hd HO Ht1 Ht2]
  · isplitr; · iexact Hi1
    isplitr; · iexact Hi2
    isplitl [Hgiv]; · iexact Hgiv
    isplitl [Hd]; · iexact Hd
    isplitl [HO]; · iexact HO
    isplitl [Ht1]; · iexact Ht1
    isplitr; · iexact Hr1
    isplitl [Ht2]; · iexact Ht2
    iexact Hr2
  iintro ⟨Hc1, HO⟩
  iapply h
  iapply Hcl $$ [Hc1 Ha1 Ha2 Hc2 Hlent Hkeep Hpc] HO
  iapply Hpc $$ [Hc1 Ha1 Ha2 Hc2] [Hlent] [Hkeep]
  · isplitl [Hc1]; · iexact Hc1
    isplitl [Ha1]; · iexact Ha1
    isplitl [Ha2]; · iexact Ha2
    iexact Hc2
  · iapply (lent_same p c (n := 4 * k.val + 1) (n' := 4 * k.val + 2) fun t => by omega) $$ Hlent
  · iexact Hkeep

end Rules

end Cert.AllReduce

end
-- ==== Proof.Moves.lean ====
/-
The remaining steps of the kernel as rules on the state: sending finished rows back up, waiting, loading, storing.
-/
module

public import proofs.«01_k».proof.Proof.Steps

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Lent
variable (X : Dev nD → OB F)

/-- Going down, the partner's rows come with the landed block. -/
theorem lent_in (p : Fin 6) (c : Dev nD) (k : ℕ) (hk : k < 3) :
    iprop(someO (pr p k c) (cur p c (k + 1)) (sz p (k + 1)) (col p) ∗ bigSep Finset.univ (fun t : Fin 3 => (lent p t c (4 * k + 3) : sProp 𝕄)))
      ⊢ bigSep Finset.univ (fun t : Fin 3 => lent p t c (4 * k + 4)) := by
  have h := bigSep_swap (fun t : Fin 3 => (lent p t c (4 * k + 3) : sProp 𝕄)) (fun t : Fin 3 => lent p t c (4 * k + 4)) ⟨k, hk⟩
    fun t ht => by
      have hne : t.val ≠ k := fun h => ht (Fin.ext h)
      unfold lent; rw [if_congr (show (4 * t.val + 4 ≤ 4 * k + 3 ∧ 4 * k + 3 ≤ 4 * (5 - t.val) + 1) ↔ (4 * t.val + 4 ≤ 4 * k + 4 ∧ 4 * k + 4 ≤ 4 * (5 - t.val) + 1) by omega) rfl rfl]
  have h2 : lent p ⟨k, hk⟩ c (4 * k + 4) = (someO (pr p k c) (cur p c (k + 1)) (sz p (k + 1)) (col p) : sProp 𝕄) := by
    unfold lent; rw [if_pos (by dsimp only; omega)]
  rw [h2] at h
  iintro ⟨Hs, Hl⟩
  ihave H := h $$ Hl
  icases H with ⟨-, H⟩
  iapply H; iexact Hs

/-- Going up, the rows lent are used. -/
theorem lent_out (p : Fin 6) (c : Dev nD) (k t : ℕ) (ht : t < 3) (hk : k + t = 5) :
    bigSep Finset.univ (fun t : Fin 3 => (lent p t c (4 * k + 1) : sProp 𝕄))
      ⊢ iprop(someO (pr p t c) (cur p c (t + 1)) (sz p (t + 1)) (col p) ∗ bigSep Finset.univ (fun t : Fin 3 => lent p t c (4 * k + 2))) := by
  have h := bigSep_swap (fun t : Fin 3 => (lent p t c (4 * k + 1) : sProp 𝕄)) (fun t : Fin 3 => lent p t c (4 * k + 2)) ⟨t, ht⟩
    fun s hs => by
      have hne : s.val ≠ t := fun h => hs (Fin.ext h)
      have := s.isLt
      unfold lent; rw [if_congr (show (4 * s.val + 4 ≤ 4 * k + 1 ∧ 4 * k + 1 ≤ 4 * (5 - s.val) + 1) ↔ (4 * s.val + 4 ≤ 4 * k + 2 ∧ 4 * k + 2 ≤ 4 * (5 - s.val) + 1) by omega) rfl rfl]
  have h1 : lent p ⟨t, ht⟩ c (4 * k + 1) = (someO (pr p t c) (cur p c (t + 1)) (sz p (t + 1)) (col p) : sProp 𝕄) := by
    unfold lent; rw [if_pos (by dsimp only; omega)]
  have h2 : lent p ⟨t, ht⟩ c (4 * k + 2) = (iprop(emp) : sProp 𝕄) := by
    unfold lent; rw [if_neg (by dsimp only; omega)]
  rw [h1, h2] at h
  iintro Hl
  ihave H := h $$ Hl
  icases H with ⟨Hs, H⟩
  isplitl [Hs]; · iexact Hs
  iapply H; iempintro

/-- Once the sending is over the sender holds again what it sent, if it is to come back. -/
theorem held_back (p k : Fin 6) (c : Dev nD) : iprop(held X p c (4 * k.val + 2) ∗ sndPay X p k c) ⊢ held X p c (4 * k.val + 3) := by
  unfold sndPay
  by_cases hk : k.val < 3
  · rw [if_pos hk, held_post X p c hk ⟨by omega, by omega⟩, held_post X p c hk ⟨by omega, by omega⟩]
    iintro ⟨H, -⟩; iexact H
  · have := k.isLt
    rw [if_neg hk, held_out X p c (by omega), held_up X p c (k := k.val) (by omega) (.inr rfl)]
    rw [show nr p k.val = sz p (6 - k.val) by unfold nr lvl; congr 1; omega, show lvl k.val + 1 = 6 - k.val by unfold lvl; omega]
    iintro ⟨-, H⟩; iexact H

/-- Going up, the rows received complete those held to the rows held before the step down. -/
theorem held_join (p k : Fin 6) (hk : 3 ≤ k.val) (c : Dev nD) : iprop(held X p c (4 * k.val + 3) ∗ rcvPay X p k c) ⊢ held X p c (4 * k.val + 5) := by
  have hk5 := k.isLt
  have hl : lvl k.val = 5 - k.val := by unfold lvl; omega
  have h65 : 6 - k.val = 5 - k.val + 1 := by omega
  unfold rcvPay
  rw [if_neg (by omega), held_up X p c hk (.inr rfl), show 4 * k.val + 5 = 4 * (k.val + 1) + 1 by omega,
    held_up X p c (k := k.val + 1) (by omega) (.inl rfl), show 6 - (k.val + 1) = 5 - k.val by omega, hl,
    show nr p k.val = sz p (5 - k.val + 1) by unfold nr; rw [hl], h65]
  exact (lvl_cut p (5 - k.val) (by omega) c (res X p)).2

/-- What the rows kept at step `k` hold once the partner's sum is added: after the last step also cut off below at zero. -/
def nxt (p : Fin 6) (k : ℕ) (c : Dev nD) : OB F := if k < 2 then acc X p (k + 1) c else fun i => relu (acc X p 3 c i)

theorem held_nxt (p : Fin 6) (k : ℕ) (hk : k < 3) (c : Dev nD) : (lvlPts p c (k + 1) (nxt X p k c) : sProp 𝕄) = held X p c (4 * k + 5) := by
  rw [show 4 * k + 5 = 4 * (k + 1) + 1 by omega]
  unfold nxt
  by_cases h2 : k < 2
  · rw [if_pos h2, held_pre X p c (by omega)]
  · obtain rfl : k = 2 := by omega
    rw [if_neg h2, held_up X p c (k := 3) (le_refl _) (.inl rfl)]
    refine oPts_congr c fun i hi => ?_
    unfold res
    rw [owner_eq p c _ (Finset.mem_filter.mp hi).2.1]

end Lent

section Rules
variable {X : Dev nD → OB F} {K : Dev nD × Option (Fin 72) → ℕ} {R : sProp (MT nD τ sig Unit (Elt F) ℕ UU ℕ)}
variable {α : Type} {Q : α → sProp (MT nD τ sig Unit (Elt F) ℕ UU ℕ)}

set_option maxHeartbeats 1000000 in
/-- Going up, a device sends its partner the finished rows it holds. -/
theorem step_send_up (p k : Fin 6) (t : ℕ) (ht : t < 3) (hkt : k.val + t = 5) {φ φ' : Fin 6 → ℕ} {c n : Dev nD} {r : ℕ} {off off' : Fin 2 → ℕ} {inb} {inb'} {hst} {hst'}
    {sS sR : DmaSem sig} {hsc : ((oM.slice (oR off' r inb') hst') : Memref sig (Dev.tc n : Thread nD τ).2.kind .vmem _ .bf16).view.ref.isScScratch = false}
    {hsrc : ((oM.slice (oR off r inb) hst) : Memref sig .tc .vmem _ .bf16).view.WordExact} {hdst : (oM.slice (oR off' r inb') hst').view.WordExact}
    {hsem : DmaTarget.Typed .vmem (.dma sR) (.remote (Dev.tc n : Thread nD τ) (oM.slice (oR off' r inb') hst') (.dma sS) hsc)}
    {kk : PUnit → Prog (TpuEff nD τ sig (Elt F) Λ₀ .tc) α}
    (hφ : φ p = 4 * k.val + 1) (hφ' : φ' = Function.update φ p (4 * k.val + 2))
    (hr : r = sz p (t + 1)) (hoff : off = ![cur p c (t + 1), col p]) (hoff' : off' = ![cur p c (t + 1), col p]) (hn : n = pr p t c)
    (hsS : sS = sndS p k) (hsR : sR = rcvS p k)
    (h : St X K R φ' c ⊢ WP c (kk ⟨⟩) Q) :
    St X K R φ c ⊢ WP c (.op (.enqueueDma (oM.slice (oR off r inb) hst) (.remote (Dev.tc n : Thread nD τ) (oM.slice (oR off' r inb') hst') (.dma sS) hsc) (.dma sR) hsrc hdst hsem) kk) Q := by
  subst hφ' hr hoff hoff' hn hsS hsR
  have hk3 : ¬ k.val < 3 := by omega
  have hl : lvl k.val = t := by unfold lvl; omega
  have h6 : 6 - k.val = t + 1 := by omega
  have hnr : nr p k.val = sz p (t + 1) := by unfold nr; rw [hl]
  have hgiv : giv p (pr p t c) t = cur p c (t + 1) := giv_pr p ⟨t, ht⟩ c
  have hA := St_open X K R p c (4 * k.val + 2) hφ
  rw [owed_send c φ p k hφ, hl] at hA
  have hB := part_open X p k c (4 * k.val + 2) ⟨Nat.le_refl (4 * k.val + 1), by omega⟩ ⟨by omega, by omega⟩
  rw [stage_0, stage_1, held_up X p c (k := k.val) (by omega) (.inl rfl), held_out X p c (by omega), h6] at hB
  unfold stage0 stage1 at hB
  rw [hl, if_neg hk3] at hB
  have hL := lent_out (F := F) p c k.val t ht hkt
  unfold someO at hL
  have hi1 := inv_at X K (c, some (sndJ p k))
  have hi2 := inv_at X K (pr p t c, some (rcvJ p k))
  have hr1 := reached_at X K (c, some (sndJ p k))
  have hr2 := reached_at X K (pr p t c, some (rcvJ p k))
  rw [kcell_snd] at hi1 hr1
  rw [kcell_rcv] at hi2 hr2
  iintro Hs
  ihave H := hA $$ Hs
  icases H with ⟨%W, Hp, HO, #Hrec, #Hlev, Hcl⟩
  ihave H := hB $$ Hp
  icases H with ⟨⟨Ht1, Ht2, Ha1, Ha2, Hc2, -⟩, Hlent, Hh, Hpc⟩
  ihave H := hL $$ Hlent
  icases H with ⟨⟨%fd, Hd⟩, Hlent⟩
  ihave #Hi1 := hi1 $$ Hrec
  ihave #Hi2 := hi2 $$ Hrec
  ihave #Hr1 := hr1 $$ Hrec
  ihave #Hr2 := hr2 $$ Hrec
  ihave Hh := (Entails.of_eq (oPts_view c inb hst _)) $$ Hh
  ihave Hd := (Entails.of_eq (oPts_view (pr p t c) inb' hst' fd)) $$ Hd
  iapply (Rounds.wp_send_pointsTo 𝒱₀ ER (Rd X) (c : Thread nD τ) none (κ₁ := K (c, some (sndJ p k))) (κ₂ := K (pr p t c, some (rcvJ p k)))
    (r₁ := 0) (r₂ := 0) (d₁ := 0) (d₂ := 0) (fd := fd) (fs := res X p) (q := fullShare)
    (by rw [duties_snd]; exact Finset.mem_singleton_self _) (by rw [duties_rcv]; exact Finset.mem_singleton_self _)
    () () (crd (nr p k.val)) (by rw [hnr]; rfl) (amount_snd X p k c 0) (amount_rcv X p k (pr p t c) 0)
    (owed (Function.update φ p (4 * k.val + 2)) c) rfl (W := W)
    (by rw [payload_snd]; unfold sndPay; rw [if_neg hk3, hnr, hl]; exact Entails.of_eq (oPts_view c inb hst _).symm)
    (by
      rw [payload_rcv]; unfold rcvPay; rw [if_neg hk3, hnr, hl, hgiv]
      refine (Entails.of_eq (oPts_view (pr p t c) inb' hst' _).symm).trans (Entails.of_eq (oPts_congr _ ?_))
      exact write_o inb' fd (res X p) (read_o inb (res X p))))
    $$ [Hh Hd HO Ht1 Ht2]
  · isplitr; · iexact Hi1
    isplitr; · iexact Hi2
    isplitl [Hh]; · iexact Hh
    isplitl [Hd]; · iexact Hd
    isplitl [HO]; · iexact HO
    isplitl [Ht1]; · iexact Ht1
    isplitr; · iexact Hr1
    isplitl [Ht2]; · iexact Ht2
    iexact Hr2
  iintro ⟨Hc1, HO⟩
  iapply h
  iapply Hcl $$ [Hc1 Ha1 Ha2 Hc2 Hlent Hpc] HO
  iapply Hpc $$ [Hc1 Ha1 Ha2 Hc2] [Hlent] []
  · isplitl [Hc1]; · iexact Hc1
    isplitl [Ha1]; · iexact Ha1
    isplitl [Ha2]; · iexact Ha2
    iexact Hc2
  · iexact Hlent
  · iempintro

set_option maxHeartbeats 1000000 in
/-- Waiting until a transfer has left. -/
theorem step_wait_send (p k : Fin 6) {φ φ' : Fin 6 → ℕ} {c : Dev nD} {s s' : Shape} {sS : DmaSem sig}
    {src : Memref sig .tc .vmem s .bf16} {dst : Memref sig .tc .vmem s' .bf16} {hsrc : src.view.WordExact} {hdst : dst.view.WordExact}
    {kk : PUnit → Prog (TpuEff nD τ sig (Elt F) Λ₀ .tc) α}
    (hφ : φ p = 4 * k.val + 2) (hφ' : φ' = Function.update φ p (4 * k.val + 3))
    (hcr : dst.view.dmaCredit = crd (nr p k.val)) (hsS : sS = sndS p k)
    (h : St X K R φ' c ⊢ WP c (kk ⟨⟩) Q) :
    St X K R φ c ⊢ WP c (.op (.waitDma2 sS src dst hsrc hdst) kk) Q := by
  subst hφ' hsS
  have hA := St_open X K R p c (4 * k.val + 3) hφ
  have hO := owed_same c φ p (4 * k.val + 3) (fun j => by rw [hφ]; omega)
  have hB := part_open X p k c (4 * k.val + 3) (n := 4 * k.val + 2) ⟨by omega, by omega⟩ ⟨by omega, by omega⟩
  rw [stage_1, stage_2] at hB
  unfold stage1 stage2 at hB
  have hi1 := inv_at X K (c, some (sndJ p k))
  rw [kcell_snd] at hi1
  have hmw := mayWait (F := F) c (.dma (sndS p k)) φ 0 (fun u => le_of_eq (lv_snd p k c u)) (fun p k _ => by omega)
  iintro Hs
  ihave H := hA $$ Hs
  icases H with ⟨%W, Hp, HO, #Hrec, #Hlev, Hcl⟩
  ihave H := hB $$ Hp
  icases H with ⟨⟨Hc1, Ha1, Ha2, Hc2⟩, Hlent, Hh, Hpc⟩
  ihave #Hi1 := hi1 $$ Hrec
  iapply (Rounds.wp_wait_rest_token 𝒱₀ ER (Rd X) (c : Thread nD τ) none (κ := K (c, some (sndJ p k)))
      (wpE_waitDma2_eq 𝒱₀ (c : Thread nD τ) none Set.univ) (Set.mem_univ _) () (O := owed φ c) (W := W) (R := 0) (m := 0) (T := ∅)
      (by rw [Nat.zero_add, expect_snd]; exact hcr)) $$ [Hc1 HO Ha1]
  · isplitr; · iexact Hi1
    isplitl [Hc1]; · rw [hcr]; iexact Hc1
    isplitl [HO]; · iexact HO
    isplitr; · iapply hmw; iexact Hlev
    iexact Ha1
  iintro ⟨HO, Ha1, -, Hpay⟩
  ihave Hpay := (Entails.of_eq (rest_snd X p k c)) $$ Hpay
  imod (Rounds.cell_close ER (Rd X) (Set.mem_univ (K (c, some (sndJ p k)))) (fun h => h) (R := 0 + 1) (duties_later X (sndCell p k c))) $$ [Ha1] with Hz
  · isplitr; · iexact Hi1
    iexact Ha1
  ihave HO := (Entails.of_eq (congrArg (fun O => owes (c : Thread nD τ) O _) hO)) $$ HO
  iapply h
  iapply Hcl $$ [Hz Ha2 Hc2 Hlent Hh Hpay Hpc] HO
  iapply Hpc $$ [Hz Ha2 Hc2] [Hlent] [Hh Hpay]
  · isplitl [Hz]; · iexact Hz
    isplitl [Ha2]; · iexact Ha2
    iexact Hc2
  · iapply (lent_same p c (n := 4 * k.val + 2) (n' := 4 * k.val + 3) fun t => by omega) $$ Hlent
  · iapply (held_back X p k c)
    isplitl [Hh]; · iexact Hh
    iexact Hpay

/-- The phase of a part once the partner's transfer of stage `k` is in. -/
abbrev got (k : Fin 6) : ℕ := if k.val < 3 then 4 * k.val + 4 else 4 * k.val + 5

/-- What the partner's transfer brings goes into the state. -/
theorem got_in (p k : Fin 6) (c : Dev nD) :
    iprop((semVal (sndCell p k c) 0 ∗ semVal (rcvCell p k c) 0) ∗ rcvPay X p k c ∗ bigSep Finset.univ (fun t : Fin 3 => lent p t c (4 * k.val + 3)) ∗ held X p c (4 * k.val + 3)
      ∗ (stage X p k c (got k) -∗ bigSep Finset.univ (fun t : Fin 3 => lent p t c (got k)) -∗ held X p c (got k) -∗ part X p c (got k)))
      ⊢ part X p c (got k) := by
  have hk6 := k.isLt
  rw [stage_3 X p k c (got k) (by unfold got; split <;> omega)]
  unfold stage3
  by_cases hk : k.val < 3
  · rw [show got k = 4 * k.val + 4 from if_pos hk, if_pos hk, held_post X p c hk ⟨by omega, by omega⟩, held_post X p c hk ⟨by omega, by omega⟩]
    unfold rcvPay
    rw [if_pos hk]
    have hL := lent_in (F := F) p c k.val hk
    iintro ⟨⟨Hz1, Hz2⟩, ⟨Hpay, Hso⟩, Hl, Hh, Hcl⟩
    iapply Hcl $$ [Hz1 Hz2 Hpay] [Hso Hl] Hh
    · isplitl [Hz1]; · iexact Hz1
      isplitl [Hz2]; · iexact Hz2
      iexact Hpay
    · iapply hL
      isplitl [Hso]; · iexact Hso
      iexact Hl
  · rw [show got k = 4 * k.val + 5 from if_neg hk, if_neg hk]
    have hJ := held_join X p k (by omega) c
    iintro ⟨⟨Hz1, Hz2⟩, Hpay, Hl, Hh, Hcl⟩
    iapply Hcl $$ [Hz1 Hz2] [Hl] [Hh Hpay]
    · isplitl [Hz1]; · iexact Hz1
      isplitl [Hz2]; · iexact Hz2
      iempintro
    · iapply (lent_same p c (n := 4 * k.val + 3) (n' := 4 * k.val + 5) fun t => by omega) $$ Hl
    · iapply hJ
      isplitl [Hh]; · iexact Hh
      iexact Hpay

set_option maxHeartbeats 1000000 in
/-- Waiting for the partner's transfer: allowed once every transfer of this stage and of those before has been issued. -/
theorem step_wait_recv (p k : Fin 6) {φ φ' : Fin 6 → ℕ} {c : Dev nD} {s s' : Shape} {sR : DmaSem sig}
    {src : Memref sig .tc .vmem s .bf16} {dst : Memref sig .tc .vmem s' .bf16} {hsrc : src.view.WordExact} {hdst : dst.view.WordExact}
    {kk : PUnit → Prog (TpuEff nD τ sig (Elt F) Λ₀ .tc) α}
    (hφ : φ p = 4 * k.val + 3) (hφ' : φ' = Function.update φ p (got k)) (hall : ∀ q, 4 * k.val + 1 < φ q)
    (hcr : dst.view.dmaCredit = crd (nr p k.val)) (hsR : sR = rcvS p k)
    (h : St X K R φ' c ⊢ WP c (kk ⟨⟩) Q) :
    St X K R φ c ⊢ WP c (.op (.waitDma2 sR src dst hsrc hdst) kk) Q := by
  subst hφ' hsR
  have hgk : 4 * k.val + 4 ≤ got k ∧ got k ≤ 4 * k.val + 5 := by unfold got; split <;> omega
  have hA := St_open X K R p c (got k) hφ
  have hO := owed_same c φ p (got k) (fun j => by rw [hφ]; omega)
  have hB := part_open X p k c (got k) (n := 4 * k.val + 3) ⟨by omega, by omega⟩ ⟨by omega, by omega⟩
  rw [stage_2] at hB
  unfold stage2 at hB
  have hi1 := inv_at X K (c, some (rcvJ p k))
  rw [kcell_rcv] at hi1
  have hmw := mayWait (F := F) c (.dma (rcvS p k)) φ (2 + k.val) (fun u => le_of_eq (lv_rcv p k c u)) (fun q j hj => by have := hall q; omega)
  iintro Hs
  ihave H := hA $$ Hs
  icases H with ⟨%W, Hp, HO, #Hrec, #Hlev, Hcl⟩
  ihave H := hB $$ Hp
  icases H with ⟨⟨Hz1, Ha2, Hc2⟩, Hlent, Hh, Hpc⟩
  ihave #Hi1 := hi1 $$ Hrec
  iapply (Rounds.wp_wait_rest_token 𝒱₀ ER (Rd X) (c : Thread nD τ) none (κ := K (c, some (rcvJ p k)))
      (wpE_waitDma2_eq 𝒱₀ (c : Thread nD τ) none Set.univ) (Set.mem_univ _) () (O := owed φ c) (W := W) (R := 0) (m := 0) (T := ∅)
      (by rw [Nat.zero_add, expect_rcv]; exact hcr)) $$ [Hc2 HO Ha2]
  · isplitr; · iexact Hi1
    isplitl [Hc2]; · rw [hcr]; iexact Hc2
    isplitl [HO]; · iexact HO
    isplitr; · iapply hmw; iexact Hlev
    iexact Ha2
  iintro ⟨HO, Ha2, -, Hpay⟩
  ihave Hpay := (Entails.of_eq (rest_rcv X p k c)) $$ Hpay
  imod (Rounds.cell_close ER (Rd X) (Set.mem_univ (K (c, some (rcvJ p k)))) (fun h => h) (R := 0 + 1) (duties_later X (rcvCell p k c))) $$ [Ha2] with Hz
  · isplitr; · iexact Hi1
    iexact Ha2
  ihave HO := (Entails.of_eq (congrArg (fun O => owes (c : Thread nD τ) O _) hO)) $$ HO
  iapply h
  iapply Hcl $$ [Hz1 Hz Hlent Hh Hpay Hpc] HO
  iapply (got_in p k c)
  isplitl [Hz1 Hz]
  · isplitl [Hz1]; · iexact Hz1
    iexact Hz
  isplitl [Hpay]; · iexact Hpay
  isplitl [Hlent]; · iexact Hlent
  isplitl [Hh]; · iexact Hh
  iexact Hpc

end Rules

end Cert.AllReduce

end
-- ==== Proof.Loads.lean ====
/-
Loads and stores as rules on the state: the blocks that are added, the inputs, the product bands.
-/
module

public import proofs.«01_k».proof.Proof.Moves

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Adding a landed block -/

section Blocks
variable {X : Dev nD → OB F} {n r q : ℕ} {x y w : (⟨2, ![n, 512]⟩ : Shape).Idx → Elt F .bf16} {p : Fin 6} {c : Dev nD}

/-- Going down, the first two times the block stored is the sum of the two loaded. -/
theorem blk_add {k : ℕ} {hs} (hx : IsBlk x (acc X p k c) r q) (hy : IsBlk y (acc X p k (pr p k c)) r q) :
    IsBlk (addf (φ := .bf16) (shapeCast (α := Elt F .bf16) ⟨2, ![n, 512]⟩ x hs) y) (acc X p (k + 1) c) r q := fun j => by
  rw [shapeCast_self]
  show FloatOps.addf (x j) (y j) = FloatOps.addf (acc X p k c _) (acc X p k (pr p k c) _)
  rw [hx j, hy j]

/-- The last time the sum is cut off below at zero. -/
theorem blk_relu (hx : IsBlk x (acc X p 3 c) r q) :
    IsBlk (maximumf (φ := .bf16) x (broadcast (α := Elt F .bf16) ⟨2, ![n, 512]⟩ (FloatOps.ofBits .bf16 0x0000#16))) (nxt X p 2 c) r q := fun j => by
  show FloatOps.maximumf (x j) _ = relu (acc X p 3 c _)
  rw [hx j]; rfl

theorem blk_nxt {k : ℕ} (hk : k < 2) (hx : IsBlk x (acc X p (k + 1) c) r q) : IsBlk x (nxt X p k c) r q := by
  unfold nxt; rw [if_pos hk]; exact hx

end Blocks

theorem oPts_acc (d : Dev nD) (r n q : ℕ) (f : OB F) (ρ : Rect S1024x1024) :
    (oPts d r n q f : sProp 𝕄) = ((oM.access ρ).loc (d : Thread nD τ) ↦[oSet r n q]{fullShare} f) := rfl
theorem rPts_acc (d : Dev nD) (r n q : ℕ) (f : RB F) (ρ : Rect S896x1024) :
    (rPts d r n q f : sProp 𝕄) = ((rM.access ρ).loc (d : Thread nD τ) ↦[rSet r n q]{fullShare} f) := rfl

section Rules
variable {X : Dev nD → OB F} {K : Dev nD × Option (Fin 72) → ℕ} {R : sProp (MT nD τ sig Unit (Elt F) ℕ UU ℕ)}
variable {α : Type} {Q : α → sProp (MT nD τ sig Unit (Elt F) ℕ UU ℕ)}

/-- Loading the rows kept, once the partner's block is in. -/
theorem step_load_o (p k : Fin 6) (hk : k.val < 3) {φ : Fin 6 → ℕ} {c : Dev nD} {r : ℕ} {off : Fin 2 → ℕ} {inb} {hl}
    {kk : ((oR off r inb).toLoadRect.shape.Idx → Elt F .bf16) → Prog (TpuEff nD τ sig (Elt F) Λ₀ .tc) α}
    (hφ : φ p = 4 * k.val + 4) (hr : r = sz p (k.val + 1)) (hoff : off = ![cur p c (k.val + 1), col p])
    (h : ∀ w, IsBlk w (acc X p k.val c) (cur p c (k.val + 1)) (col p) → St X K R φ c ⊢ WP c (kk w) Q) :
    St X K R φ c ⊢ WP c (.op (.load oM (oR off r inb).toLoadRect hl) kk) Q := by
  subst hr hoff
  have hA := St_open X K R p c (4 * k.val + 4) hφ
  rw [← hφ, Function.update_eq_self, hφ] at hA
  have hB := part_open X p k c (4 * k.val + 4) (n := 4 * k.val + 4) ⟨by omega, by omega⟩ ⟨by omega, by omega⟩
  rw [held_post X p c hk ⟨by omega, by omega⟩] at hB
  iintro Hs
  ihave H := hA $$ Hs
  icases H with ⟨%W, Hp, HO, #Hrec, #Hlev, Hcl⟩
  ihave H := hB $$ Hp
  icases H with ⟨Hst, Hlent, Hh, Hpc⟩
  ihave Hh := (Entails.of_eq (oPts_acc c _ _ _ _ (oR ![cur p c (k.val + 1), col p] (sz p (k.val + 1)) inb))) $$ Hh
  iapply (wp_load_rect 𝒱₀ (c : Thread nD τ) none Set.univ (m := oM) (r := (oR ![cur p c (k.val + 1), col p] (sz p (k.val + 1)) inb)) (S := oSet _ _ _) (q := fullShare) (f := acc X p k.val c) (le_of_eq (oV_set inb))) $$ Hh
  iintro Hh
  ihave Hh := (Entails.of_eq (oPts_acc c _ _ _ _ (oR ![cur p c (k.val + 1), col p] (sz p (k.val + 1)) inb)).symm) $$ Hh
  iapply (h _ (read_o inb (acc X p k.val c)))
  iapply Hcl $$ [Hst Hlent Hh Hpc] HO
  iapply Hpc $$ Hst Hlent Hh

/-- Loading the block that landed. -/
theorem step_load_r (p k : Fin 6) (hk : k.val < 3) {φ : Fin 6 → ℕ} {c : Dev nD} {r : ℕ} {off : Fin 2 → ℕ} {inb} {hl}
    {kk : ((rR off r inb).toLoadRect.shape.Idx → Elt F .bf16) → Prog (TpuEff nD τ sig (Elt F) Λ₀ .tc) α}
    (hφ : φ p = 4 * k.val + 4) (hr : r = sz p (k.val + 1)) (hoff : off = ![boff p k.val, col p])
    (h : ∀ w, IsBlk w (acc X p k.val (pr p k.val c)) (cur p c (k.val + 1)) (col p) → St X K R φ c ⊢ WP c (kk w) Q) :
    St X K R φ c ⊢ WP c (.op (.load rM (rR off r inb).toLoadRect hl) kk) Q := by
  subst hr hoff
  have hA := St_open X K R p c (4 * k.val + 4) hφ
  rw [← hφ, Function.update_eq_self, hφ] at hA
  have hB := part_open X p k c (4 * k.val + 4) (n := 4 * k.val + 4) ⟨by omega, by omega⟩ ⟨by omega, by omega⟩
  rw [stage_3 X p k c _ (le_refl _)] at hB
  unfold stage3 at hB
  rw [if_pos hk] at hB
  unfold landedPts at hB
  iintro Hs
  ihave H := hA $$ Hs
  icases H with ⟨%W, Hp, HO, #Hrec, #Hlev, Hcl⟩
  ihave H := hB $$ Hp
  icases H with ⟨⟨Hz1, Hz2, ⟨%f, %hf, Hf⟩⟩, Hlent, Hh, Hpc⟩
  ihave Hf := (Entails.of_eq (rPts_acc c _ _ _ _ (rR ![boff p k.val, col p] (sz p (k.val + 1)) inb))) $$ Hf
  iapply (wp_load_rect 𝒱₀ (c : Thread nD τ) none Set.univ (m := rM) (r := rR ![boff p k.val, col p] (sz p (k.val + 1)) inb) (S := rSet _ _ _) (q := fullShare) (f := f) (le_of_eq (rV_set inb))) $$ Hf
  iintro Hf
  ihave Hf := (Entails.of_eq (rPts_acc c _ _ _ _ (rR ![boff p k.val, col p] (sz p (k.val + 1)) inb)).symm) $$ Hf
  iapply (h _ (read_r inb hf))
  iapply Hcl $$ [Hz1 Hz2 Hf Hlent Hh Hpc] HO
  iapply Hpc $$ [Hz1 Hz2 Hf] Hlent Hh
  isplitl [Hz1]; · iexact Hz1
  isplitl [Hz2]; · iexact Hz2
  iexists f
  isplitr; · ipureintro; exact hf
  iexact Hf

/-- Storing the sum. -/
theorem step_store (p k : Fin 6) (hk : k.val < 3) {φ φ' : Fin 6 → ℕ} {c : Dev nD} {r : ℕ} {off : Fin 2 → ℕ} {inb}
    {w : (oR off r inb).shape.Idx → Elt F .bf16} {hx} {hm}
    {kk : PUnit → Prog (TpuEff nD τ sig (Elt F) Λ₀ .tc) α}
    (hφ : φ p = 4 * k.val + 4) (hφ' : φ' = Function.update φ p (4 * k.val + 5))
    (hr : r = sz p (k.val + 1)) (hoff : off = ![cur p c (k.val + 1), col p])
    (hw : IsBlk w (nxt X p k.val c) (cur p c (k.val + 1)) (col p))
    (h : St X K R φ' c ⊢ WP c (kk ⟨⟩) Q) :
    St X K R φ c ⊢ WP c (.op (.store oM (oR off r inb) w Finset.univ hx hm) kk) Q := by
  subst hr hoff hφ'
  have hA := St_open X K R p c (4 * k.val + 5) hφ
  have hO := owed_same c φ p (4 * k.val + 5) (fun j => by rw [hφ]; omega)
  have hB := part_open X p k c (4 * k.val + 5) (n := 4 * k.val + 4) ⟨by omega, by omega⟩ ⟨by omega, by omega⟩
  rw [stage_3 X p k c _ (le_refl _), stage_3 X p k c (4 * k.val + 5) (by omega), held_post X p c hk ⟨by omega, by omega⟩, ← held_nxt X p k.val hk c] at hB
  iintro Hs
  ihave H := hA $$ Hs
  icases H with ⟨%W, Hp, HO, #Hrec, #Hlev, Hcl⟩
  ihave H := hB $$ Hp
  icases H with ⟨Hst, Hlent, Hh, Hpc⟩
  ihave Hh := (Entails.of_eq (oPts_acc c _ _ _ _ (oR ![cur p c (k.val + 1), col p] (sz p (k.val + 1)) inb))) $$ Hh
  iapply (wp_store 𝒱₀ (c : Thread nD τ) none Set.univ (m := oM) (r := (oR ![cur p c (k.val + 1), col p] (sz p (k.val + 1)) inb)) (w := w) (Mk := Finset.univ) (S := oSet _ _ _) (f := acc X p k.val c) (le_of_eq (oV_set inb))) $$ Hh
  iintro Hh
  ihave Hh := (Entails.of_eq (oPts_acc c _ _ _ _ (oR ![cur p c (k.val + 1), col p] (sz p (k.val + 1)) inb)).symm) $$ Hh
  ihave Hh := (Entails.of_eq (oPts_congr c (write_o inb (acc X p k.val c) (nxt X p k.val c) hw))) $$ Hh
  ihave HO := (Entails.of_eq (congrArg (fun O => owes (c : Thread nD τ) O W) hO)) $$ HO
  iapply h
  iapply Hcl $$ [Hst Hlent Hh Hpc] HO
  iapply Hpc $$ Hst [Hlent] Hh
  iapply (lent_same p c (n := 4 * k.val + 4) (n' := 4 * k.val + 5) fun t => by omega) $$ Hlent

end Rules

/-! ## The inputs -/

section Inputs
variable {α : Type} {Q : α → sProp (MT nD τ sig Unit (Elt F) ℕ UU ℕ)} {S S' : sProp (MT nD τ sig Unit (Elt F) ℕ UU ℕ)}
variable {c : Dev nD} {a : Vec F S1024x512 .bf16} {b g g' : Vec F S512x1024 .bf16}

abbrev aM : Memref sig .tc .vmem S1024x512 .bf16 := Memref.whole cc0_stg0_0
abbrev bM : Memref sig .tc .vmem S512x1024 .bf16 := Memref.whole cc0_stg1_0
abbrev gM : Memref sig .tc .vmem S512x1024 .bf16 := Memref.whole cc0_scratch0

theorem off_zero : (![0, 0] : Fin 2 → ℕ) = fun _ => 0 := by funext i; fin_cases i <;> rfl

/-- Loading rows of the first input. -/
theorem load_a {r : Rect S1024x512} {hl} {kk : (r.toLoadRect.shape.Idx → Elt F .bf16) → Prog (TpuEff nD τ sig (Elt F) Λ₀ .tc) α}
    (hS : S ⊢ iprop(inp c a b g ∗ (inp c a b g -∗ S))) (h : S ⊢ WP c (kk ((aM.access r).read (Elt F) a)) Q) :
    S ⊢ WP c (.op (.load aM r.toLoadRect hl) kk) Q := by
  unfold inp at hS
  iintro Hs
  ihave H := hS $$ Hs
  icases H with ⟨⟨Ha, Hb, Hg⟩, Hcl⟩
  iapply (wp_load_rect 𝒱₀ (c : Thread nD τ) none Set.univ (m := aM) (r := r) (S := Finset.univ) (f := a) (Finset.subset_univ _)) $$ Ha
  iintro Ha
  iapply h
  iapply Hcl
  isplitl [Ha]; · iexact Ha
  isplitl [Hb]; · iexact Hb
  iexact Hg

/-- Loading the second input. -/
theorem load_b {inb} {hl} {kk : ((Rect.unit (s := S512x1024) ![0, 0] S512x1024.size inb).toLoadRect.shape.Idx → Elt F .bf16) → Prog (TpuEff nD τ sig (Elt F) Λ₀ .tc) α}
    (hS : S ⊢ iprop(inp c a b g ∗ (inp c a b g -∗ S))) (h : S ⊢ WP c (kk b) Q) :
    S ⊢ WP c (.op (.load bM (Rect.unit (s := S512x1024) ![0, 0] S512x1024.size inb).toLoadRect hl) kk) Q := by
  unfold inp at hS
  have h' : S ⊢ WP c (kk (bM.view.readAt (Elt F) (Rect.unit (s := S512x1024) ![0, 0] S512x1024.size inb).toLoadRect b)) Q := by
    rw [show bM.view.readAt (Elt F) (Rect.unit (s := S512x1024) ![0, 0] S512x1024.size inb).toLoadRect b = b from Memref.readAt_unit_zero (Elt F) cc0_stg1_0 off_zero inb b]; exact h
  iintro Hs
  ihave H := hS $$ Hs
  icases H with ⟨⟨Ha, Hb, Hg⟩, Hcl⟩
  iapply (wp_load 𝒱₀ (c : Thread nD τ) none Set.univ (m := bM) (r := (Rect.unit (s := S512x1024) ![0, 0] S512x1024.size inb).toLoadRect) (S := Finset.univ) (f := b) (Finset.subset_univ _)) $$ Hb
  iintro Hb
  iapply h'
  iapply Hcl
  isplitl [Ha]; · iexact Ha
  isplitl [Hb]; · iexact Hb
  iexact Hg

/-- Loading the copy of the second input. -/
theorem load_g {inb} {hl} {kk : ((Rect.unit (s := S512x1024) ![0, 0] S512x1024.size inb).toLoadRect.shape.Idx → Elt F .bf16) → Prog (TpuEff nD τ sig (Elt F) Λ₀ .tc) α}
    (hS : S ⊢ iprop(inp c a b g ∗ (inp c a b g -∗ S))) (h : S ⊢ WP c (kk g) Q) :
    S ⊢ WP c (.op (.load gM (Rect.unit (s := S512x1024) ![0, 0] S512x1024.size inb).toLoadRect hl) kk) Q := by
  unfold inp at hS
  have h' : S ⊢ WP c (kk (gM.view.readAt (Elt F) (Rect.unit (s := S512x1024) ![0, 0] S512x1024.size inb).toLoadRect g)) Q := by
    rw [show gM.view.readAt (Elt F) (Rect.unit (s := S512x1024) ![0, 0] S512x1024.size inb).toLoadRect g = g from Memref.readAt_unit_zero (Elt F) cc0_scratch0 off_zero inb g]; exact h
  iintro Hs
  ihave H := hS $$ Hs
  icases H with ⟨⟨Ha, Hb, Hg⟩, Hcl⟩
  iapply (wp_load 𝒱₀ (c : Thread nD τ) none Set.univ (m := gM) (r := (Rect.unit (s := S512x1024) ![0, 0] S512x1024.size inb).toLoadRect) (S := Finset.univ) (f := g) (Finset.subset_univ _)) $$ Hg
  iintro Hg
  iapply h'
  iapply Hcl
  isplitl [Ha]; · iexact Ha
  isplitl [Hb]; · iexact Hb
  iexact Hg

/-- Storing the copy. -/
theorem store_g {inb} {w : (Rect.unit (s := S512x1024) ![0, 0] S512x1024.size inb).shape.Idx → Elt F .bf16} {hx} {hm} {kk : PUnit → Prog (TpuEff nD τ sig (Elt F) Λ₀ .tc) α}
    (hS : S ⊢ iprop(inp c a b g ∗ (inp c a b (w : Vec F S512x1024 .bf16) -∗ S'))) (h : S' ⊢ WP c (kk ⟨⟩) Q) :
    S ⊢ WP c (.op (.store gM (Rect.unit (s := S512x1024) ![0, 0] S512x1024.size inb) w Finset.univ hx hm) kk) Q := by
  unfold inp at hS
  have he : (gM.access (Rect.unit (s := S512x1024) ![0, 0] S512x1024.size inb)).write (Elt F) g w Finset.univ = (w : Vec F S512x1024 .bf16) := Memref.write_access_unit_zero_univ (Elt F) cc0_scratch0 off_zero inb g w
  iintro Hs
  ihave H := hS $$ Hs
  icases H with ⟨⟨Ha, Hb, Hg⟩, Hcl⟩
  iapply (wp_store 𝒱₀ (c : Thread nD τ) none Set.univ (m := gM) (r := Rect.unit (s := S512x1024) ![0, 0] S512x1024.size inb) (w := w) (Mk := Finset.univ) (S := Finset.univ) (f := g) (Finset.subset_univ _)) $$ Hg
  iintro Hg
  ihave Hg := (Entails.of_eq (congrArg (fun x => (((c : Thread nD τ).loc cc0_scratch0) ↦{fullShare} x : sProp 𝕄)) he)) $$ Hg
  iapply h
  iapply Hcl
  isplitl [Ha]; · iexact Ha
  isplitl [Hb]; · iexact Hb
  iexact Hg

theorem St_inp (X : Dev nD → OB F) (K : Dev nD × Option (Fin 72) → ℕ) (φ : Fin 6 → ℕ) :
    St X K (inp c a b g) φ c ⊢ iprop(inp c a b g ∗ (inp c a b g -∗ St X K (inp c a b g) φ c)) := by
  unfold St
  iintro ⟨Hp, HO, #Hrec, #Hlev, HR⟩
  isplitl [HR]; · iexact HR
  iintro HR
  isplitl [Hp]; · iexact Hp
  isplitl [HO]; · iexact HO
  isplitr; · iexact Hrec
  isplitr; · iexact Hlev
  iexact HR

end Inputs

/-! ## The product bands -/

section Bands
variable {X : Dev nD → OB F}
variable {α : Type} {Q : α → sProp (MT nD τ sig Unit (Elt F) ℕ UU ℕ)} {S S' : sProp (MT nD τ sig Unit (Elt F) ℕ UU ℕ)} {c : Dev nD}

/-- Rows `r … r + n - 1`, all columns. -/
def bandSet (r n : ℕ) : Finset S1024x1024.Idx := Finset.univ.filter fun i => r ≤ (i 0).val ∧ (i 0).val < r + n

theorem band_union (r n : ℕ) : bandSet r n = oSet r n 0 ∪ oSet r n 512 := by
  ext i
  have h1 : (i 1).val < 1024 := (i 1).isLt
  unfold bandSet oSet
  simp only [Finset.mem_union, Finset.mem_filter, Finset.mem_univ, true_and]
  omega
theorem band_disj (r n : ℕ) : Disjoint (oSet r n 0) (oSet r n 512) := by
  rw [Finset.disjoint_left]
  intro i h h'
  unfold oSet at h h'
  simp only [Finset.mem_filter, Finset.mem_univ, true_and] at h h'
  omega

abbrev wR (off : Fin 2 → ℕ) (n : ℕ) (inb : ∀ a, off a + (![n, 1024] : Fin 2 → ℕ) a ≤ S1024x1024.size a) : Rect S1024x1024 :=
  Rect.unit (s := S1024x1024) off ![n, 1024] inb

variable {r n : ℕ}

theorem wV_set (inb) : ((oM.access (wR ![r, 0] n inb)) : View sig .tc _ _ _).set = bandSet r n := by
  refine (View.set_slice_whole _ _).trans ?_
  ext i
  rw [Rect.mem_set_unit]
  unfold bandSet
  rw [Finset.mem_filter]
  have h1 : (i 1).val < 1024 := (i 1).isLt
  exact ⟨fun h => ⟨Finset.mem_univ _, h 0⟩, fun h a => match a with | ⟨0, _⟩ => h.2 | ⟨1, _⟩ => ⟨Nat.zero_le _, by show (i 1).val < 0 + 1024; omega⟩⟩

theorem wV_emb (inb) (j : (⟨2, ![n, 1024]⟩ : Shape).Idx) :
    ((oM.access (wR ![r, 0] n inb)) : View sig .tc _ _ _).emb j = ixO (r + (j 0).val) (j 1).val := by
  have h0 : r + n ≤ 1024 := inb 0
  have hj0 : (j 0).val < n := (j 0).isLt
  have hj1 : (j 1).val < 1024 := (j 1).isLt
  funext a
  refine Fin.ext ?_
  match a with
  | ⟨0, _⟩ => show r + 1 * (j 0).val = (r + (j 0).val) % 1024; rw [Nat.mod_eq_of_lt (by omega)]; omega
  | ⟨1, _⟩ => show 0 + 1 * (j 1).val = (j 1).val % 1024; rw [Nat.mod_eq_of_lt (by omega)]; omega

/-- `w` is the band of `g` from row `r` on. -/
def IsBand (w : (⟨2, ![n, 1024]⟩ : Shape).Idx → Elt F .bf16) (g : OB F) (r : ℕ) : Prop := ∀ j, w j = g (ixO (r + (j 0).val) (j 1).val)

theorem write_band (inb) (f g : OB F) {w : (⟨2, ![n, 1024]⟩ : Shape).Idx → Elt F .bf16} (h : IsBand w g r) :
    ∀ i ∈ bandSet r n, ((oM.access (wR ![r, 0] n inb)).write (Elt F) f w Finset.univ : OB F) i = g i := fun i hi => by
  have hi' := (Finset.mem_filter.mp hi).2
  have h1 : (i 1).val < 1024 := (i 1).isLt
  have h0 : (i 0).val < 1024 := (i 0).isLt
  have he := wV_emb (n := n) inb (ValueIdx.ix2 (⟨(i 0).val - r, by omega⟩ : Fin n) (⟨(i 1).val, h1⟩ : Fin 1024))
  have hi2 : i = ixO (r + ((i 0).val - r)) (i 1).val := by
    funext a
    refine Fin.ext ?_
    match a with
    | ⟨0, _⟩ => show (i 0).val = (r + ((i 0).val - r)) % 1024; rw [Nat.mod_eq_of_lt (by omega)]; omega
    | ⟨1, _⟩ => show (i 1).val = (i 1).val % 1024; rw [Nat.mod_eq_of_lt (by omega)]
  rw [hi2.trans he.symm]
  refine (View.write_emb_of_mem _ _ (Finset.mem_univ _)).trans ?_
  rw [he]
  exact h _

/-- Part `b` and part `b + 3` are the left and the right half of band `b`. -/
abbrev lft (b : Fin 3) : Fin 6 := ⟨b.val, by omega⟩
abbrev rgt (b : Fin 3) : Fin 6 := ⟨b.val + 3, by omega⟩

theorem band_geo (b : Fin 3) : base (rgt b) = base (lft b) ∧ rows (rgt b) = rows (lft b) ∧ col (lft b) = 0 ∧ col (rgt b) = 512 := by
  revert b; decide

theorem band_join (b : Fin 3) (c : Dev nD) : iprop(held X (lft b) c 0 ∗ held X (rgt b) c 0)
    ⊢ iprop(∃ f : OB F, ((c : Thread nD τ).loc cc0_stg2_0) ↦[bandSet (base (lft b)) (rows (lft b))]{fullShare} f) := by
  obtain ⟨h1, h2, h3, h4⟩ := band_geo b
  unfold held
  rw [if_pos rfl, if_pos rfl, h1, h2, h3, h4, band_union]
  unfold someO oPts
  iintro ⟨⟨%f, Hf⟩, ⟨%f', Hf'⟩⟩
  iexists ((oSet (base (lft b)) (rows (lft b)) 512).piecewise f' f)
  iapply (pointsTo_join (band_disj _ _))
  isplitl [Hf]; · iexact Hf
  iexact Hf'

theorem band_cut0 (b : Fin 3) (c : Dev nD) (f : OB F) : (((c : Thread nD τ).loc cc0_stg2_0) ↦[bandSet (base (lft b)) (rows (lft b))]{fullShare} f : sProp 𝕄)
    ⊢ iprop(held X (lft b) c 0 ∗ held X (rgt b) c 0) := by
  obtain ⟨h1, h2, h3, h4⟩ := band_geo b
  unfold held
  rw [if_pos rfl, if_pos rfl, h1, h2, h3, h4, band_union]
  unfold someO oPts
  iintro H
  ihave H := (pointsTo_union (band_disj _ _)).1 $$ H
  icases H with ⟨Hf, Hf'⟩
  isplitl [Hf]
  · iexists f; iexact Hf
  · iexists f; iexact Hf'

theorem band_cut1 (b : Fin 3) (c : Dev nD) : (((c : Thread nD τ).loc cc0_stg2_0) ↦[bandSet (base (lft b)) (rows (lft b))]{fullShare} (X c) : sProp 𝕄)
    ⊢ iprop(held X (lft b) c 1 ∗ held X (rgt b) c 1) := by
  obtain ⟨h1, h2, h3, h4⟩ := band_geo b
  rw [held_pre X (lft b) c (k := 0) (by decide), held_pre X (rgt b) c (k := 0) (by decide)]
  show _ ⊢ iprop(oPts c (base (lft b)) (sz (lft b) 0) (col (lft b)) (X c) ∗ oPts c (base (rgt b)) (sz (rgt b) 0) (col (rgt b)) (X c))
  rw [sz_zero, sz_zero, h1, h2, h3, h4, band_union]
  exact (pointsTo_union (band_disj _ _)).1

/-- Loading a band before it is filled: whatever is loaded is not used. -/
theorem load_band (b : Fin 3) {off : Fin 2 → ℕ} {inb} {hl} {kk : ((wR off n inb).toLoadRect.shape.Idx → Elt F .bf16) → Prog (TpuEff nD τ sig (Elt F) Λ₀ .tc) α}
    (hn : n = rows (lft b)) (hoff : off = ![base (lft b), 0])
    (hS : S ⊢ iprop(held X (lft b) c 0 ∗ held X (rgt b) c 0 ∗ (held X (lft b) c 0 -∗ held X (rgt b) c 0 -∗ S))) (h : ∀ w, S ⊢ WP c (kk w) Q) :
    S ⊢ WP c (.op (.load oM (wR off n inb).toLoadRect hl) kk) Q := by
  subst hn hoff
  have hj := band_join (X := X) b c
  have hc := band_cut0 (X := X) b c
  iintro Hs
  ihave H := hS $$ Hs
  icases H with ⟨H1, H2, Hcl⟩
  ihave H := hj $$ [H1 H2]
  · isplitl [H1]; · iexact H1
    iexact H2
  icases H with ⟨%f, Hf⟩
  iapply (wp_load_rect 𝒱₀ (c : Thread nD τ) none Set.univ (m := oM) (le_of_eq (wV_set inb))) $$ Hf
  iintro Hf
  ihave H := (hc f) $$ Hf
  icases H with ⟨H1, H2⟩
  iapply (h _)
  iapply Hcl $$ H1 H2

/-- Storing the product band. -/
theorem store_band (b : Fin 3) {off : Fin 2 → ℕ} {inb} {w : (wR off n inb).shape.Idx → Elt F .bf16} {hx} {hm} {kk : PUnit → Prog (TpuEff nD τ sig (Elt F) Λ₀ .tc) α}
    (hn : n = rows (lft b)) (hoff : off = ![base (lft b), 0]) (hw : IsBand w (X c) (base (lft b)))
    (hS : S ⊢ iprop(held X (lft b) c 0 ∗ held X (rgt b) c 0 ∗ (held X (lft b) c 1 -∗ held X (rgt b) c 1 -∗ S'))) (h : S' ⊢ WP c (kk ⟨⟩) Q) :
    S ⊢ WP c (.op (.store oM (wR off n inb) w Finset.univ hx hm) kk) Q := by
  subst hn hoff
  have hj := band_join (X := X) b c
  have hc := band_cut1 (X := X) b c
  iintro Hs
  ihave H := hS $$ Hs
  icases H with ⟨H1, H2, Hcl⟩
  ihave H := hj $$ [H1 H2]
  · isplitl [H1]; · iexact H1
    iexact H2
  icases H with ⟨%f, Hf⟩
  iapply (wp_store 𝒱₀ (c : Thread nD τ) none Set.univ (m := oM) (le_of_eq (wV_set inb))) $$ Hf
  iintro Hf
  ihave Hf := (Entails.of_eq (pointsTo_congr (write_band inb f (X c) hw))) $$ Hf
  ihave H := hc $$ Hf
  icases H with ⟨H1, H2⟩
  iapply h
  iapply Hcl $$ H1 H2

/-- Two conjuncts out of a product, replaced together. -/
theorem bigSep_swap2 {I : Type} [Fintype I] [DecidableEq I] (Φ Ψ : I → sProp (MT nD τ sig Unit (Elt F) ℕ UU ℕ)) (i j : I) (hij : i ≠ j) (h : ∀ k, k ≠ i → k ≠ j → Φ k = Ψ k) :
    bigSep Finset.univ Φ ⊢ iprop(Φ i ∗ Φ j ∗ (Ψ i -∗ Ψ j -∗ bigSep Finset.univ Ψ)) := by
  rw [bigSep_univ_split (Φ := Φ) i, bigSep_univ_split (Φ := Ψ) i, BI.bigSep_erase (s := Finset.univ.erase i) (Φ := Φ) (i := j) (Finset.mem_erase.mpr ⟨hij.symm, Finset.mem_univ _⟩),
    BI.bigSep_erase (s := Finset.univ.erase i) (Φ := Ψ) (i := j) (Finset.mem_erase.mpr ⟨hij.symm, Finset.mem_univ _⟩),
    bigSep_congr (s := (Finset.univ.erase i).erase j) (Ψ := Ψ) fun k hk => h k (Finset.ne_of_mem_erase (Finset.mem_of_mem_erase hk)) (Finset.ne_of_mem_erase hk)]
  show iprop(Φ i ∗ Φ j ∗ bigSep ((Finset.univ.erase i).erase j) Ψ) ⊢ iprop(Φ i ∗ Φ j ∗ (Ψ i -∗ Ψ j -∗ (Ψ i ∗ Ψ j ∗ bigSep ((Finset.univ.erase i).erase j) Ψ)))
  iintro ⟨H1, H2, Hr⟩
  isplitl [H1]; · iexact H1
  isplitl [H2]; · iexact H2
  iintro H1 H2
  isplitl [H1]; · iexact H1
  isplitl [H2]; · iexact H2
  iexact Hr

end Bands

end Cert.AllReduce

end
-- ==== Proof.Entry.lean ====
/-
The start of a run: the signals to the three partners, the wait for theirs, and the state that begins there.
-/
module

public import proofs.«01_k».proof.Proof.Loads

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The rows of the partner's landing buffer into which device `c` sends at step `k` of part `p`. -/
def landTo (p : Fin 6) (k : ℕ) (c : Dev nD) : sProp 𝕄 :=
  iprop(∃ f, rPts (pr p k c) (boff p k) (sz p (k + 1)) (col p) f)

/-- The ghost state of a stage at the start, without the partner's rows. -/
def tok0 (p k : Fin 6) (c : Dev nD) : sProp 𝕄 :=
  iprop(dutyTok ER (sndCell p k c) 0 0 ∗ dutyTok ER (rcvCell p k (pr p (lvl k.val) c)) 0 0
    ∗ atPos ER (sndCell p k c) 0 ∅ 0 ∗ atPos ER (rcvCell p k c) 0 ∅ 0 ∗ cred (tallyAt (rcvCell p k c) () (crd (nr p k.val))))

/-- What is left to signal: the barrier's duties from `s` on, with the rows of `c`'s landing buffer that go along. -/
def dueAt (c : Dev nD) (m : Fin 3) (s : ℕ) : sProp 𝕄 :=
  if s ≤ m.val then iprop(dutyTok ER (barCell (peer m c)) 0 m ∗ barPay (peer m c) m) else iprop(emp)

/-- What device `c` owes the barriers after `s` signals. -/
def barOwed (c : Dev nD) : ℕ → CellTallies nD τ sig Unit
  | 0 => tallyAt (barCell (peer 2 c)) () 1 + tallyAt (barCell (peer 1 c)) () 1 + tallyAt (barCell (peer 0 c)) () 1
  | 1 => tallyAt (barCell (peer 2 c)) () 1 + tallyAt (barCell (peer 1 c)) () 1
  | 2 => tallyAt (barCell (peer 2 c)) () 1
  | _ => 0

section Entry
variable (X : Dev nD → OB F) (K : Dev nD × Option (Fin 72) → ℕ) (R : sProp (MT nD τ sig Unit (Elt F) ℕ UU ℕ)) (c : Dev nD)

/-- The state before the barrier, after `s` signals; part `p`'s rows at phase `φ p`. -/
def Pre (φ : Fin 6 → ℕ) (s : ℕ) : sProp 𝕄 :=
  iprop(bigSep Finset.univ (fun p => held X p c (φ p)) ∗ bigSep Finset.univ (fun p : Fin 6 => bigSep Finset.univ fun k : Fin 6 => tok0 p k c)
    ∗ bigSep Finset.univ (fun m : Fin 3 => dueAt c m s) ∗ atPos ER (barCell c) 0 ∅ 0 ∗ cred (tallyAt (barCell c) () 3)
    ∗ (∃ W, owes (c : Thread nD τ) (owed (fun _ => 0) c + barOwed c s) W) ∗ recs X K ∗ levAts L lv ∗ R)

theorem barPay_eq : barPay (F := F) c = fun m => bigSep Finset.univ fun p : Fin 6 => landTo p (tm p m) c := by
  funext m
  unfold barPay landTo
  refine bigSep_congr fun p _ => ?_
  rw [show pr p (tm p m) c = peer m c from congrArg (fun x => peer x c) (show mk p (tm p m) = m by revert p m; decide)]

/-- The step at which a part uses a mask, one to one. -/
def tmEquiv (p : Fin 6) : Fin 3 ≃ Fin 3 where
  toFun m := ⟨tm p m, Nat.mod_lt _ (by decide)⟩
  invFun t := mk p t.val
  left_inv := by revert p; decide
  right_inv := by revert p; decide

theorem barPay_all : bigSep Finset.univ (barPay (F := F) c) = bigSep Finset.univ fun p : Fin 6 => bigSep Finset.univ fun k : Fin 3 => landTo p k.val c := by
  rw [barPay_eq, bigSep_univ_comm]
  refine bigSep_congr fun p _ => ?_
  exact (bigSep_univ_equiv (tmEquiv p) (Φ := fun k : Fin 3 => (landTo p k.val c : sProp 𝕄))).symm

theorem land_six (p : Fin 6) : bigSep Finset.univ (fun k : Fin 3 => (landTo p k.val c : sProp 𝕄))
    ⊢ bigSep Finset.univ fun k : Fin 6 => if k.val < 3 then landTo p k.val c else iprop(emp) := by
  rw [bigSep_univ_eq_bigSepL [0, 1, 2] (by decide) (by decide), bigSep_univ_eq_bigSepL [0, 1, 2, 3, 4, 5] (by decide) (by decide)]
  show iprop(landTo p 0 c ∗ landTo p 1 c ∗ landTo p 2 c) ⊢ iprop(landTo p 0 c ∗ landTo p 1 c ∗ landTo p 2 c ∗ emp ∗ emp ∗ emp)
  iintro ⟨H0, H1, H2⟩
  isplitl [H0]; · iexact H0
  isplitl [H1]; · iexact H1
  isplitl [H2]; · iexact H2
  isplitr; · iempintro
  isplitr; · iempintro
  iempintro

/-- Tokens and the partners' rows make all the stages' starts. -/
theorem stages_start (p : Fin 6) {n : ℕ} (hn : n ≤ 1) :
    iprop(bigSep Finset.univ (fun k : Fin 6 => tok0 (F := F) p k c) ∗ bigSep Finset.univ (fun k : Fin 3 => (landTo p k.val c : sProp 𝕄)) ∗ held X p c n)
      ⊢ part X p c n := by
  have h1 : bigSep Finset.univ (fun k : Fin 6 => iprop(tok0 p k c ∗ if k.val < 3 then landTo p k.val c else iprop(emp)))
      ⊢ bigSep Finset.univ (fun k : Fin 6 => stage X p k c n) := by
    have hk : ∀ k : Fin 6, iprop(tok0 p k c ∗ if k.val < 3 then landTo p k.val c else iprop(emp)) ⊢ stage X p k c n := fun k => by
      rw [show stage X p k c n = stage0 p k c from if_pos (by omega)]
      unfold stage0 tok0 landTo
      iintro ⟨⟨H1, H2, H3, H4, H5⟩, H6⟩
      isplitl [H1]; · iexact H1
      isplitl [H2]; · iexact H2
      isplitl [H3]; · iexact H3
      isplitl [H4]; · iexact H4
      isplitl [H5]; · iexact H5
      iexact H6
    exact bigSep_mono fun k _ => hk k
  have he : iprop(bigSep Finset.univ (fun k : Fin 6 => tok0 (F := F) p k c) ∗ bigSep Finset.univ (fun k : Fin 6 => if k.val < 3 then landTo (F := F) p k.val c else iprop(emp)))
      = bigSep Finset.univ (fun k : Fin 6 => iprop(tok0 p k c ∗ if k.val < 3 then landTo p k.val c else iprop(emp))) := (bigSep_sep _ _ _).symm
  have h2 : bigSep Finset.univ (fun t : Fin 3 => (lent p t c n : sProp 𝕄)) = iprop(emp) := by
    rw [show (fun t : Fin 3 => (lent p t c n : sProp 𝕄)) = fun _ => iprop(emp) from funext fun t => by unfold lent; rw [if_neg (by omega)]]
    exact bigSep_emp_const _
  unfold part
  rw [h2]
  have h3 := land_six (F := F) c p
  iintro ⟨Ht, Hl, Hh⟩
  ihave Hl := h3 $$ Hl
  isplitl [Ht Hl]
  · iapply h1
    iapply (Entails.of_eq he)
    isplitl [Ht]; · iexact Ht
    iexact Hl
  isplitr; · iempintro
  iexact Hh

variable {X K R c}
variable {α : Type} {Q : α → sProp (MT nD τ sig Unit (Elt F) ℕ UU ℕ)}

theorem due_step (m : Fin 3) : bigSep Finset.univ (fun j : Fin 3 => (dueAt c j m.val : sProp 𝕄))
    ⊢ iprop((dutyTok ER (barCell (peer m c)) 0 m ∗ barPay (peer m c) m) ∗ bigSep Finset.univ (fun j : Fin 3 => dueAt c j (m.val + 1))) := by
  have h := bigSep_swap (fun j : Fin 3 => (dueAt c j m.val : sProp 𝕄)) (fun j => dueAt c j (m.val + 1)) m fun j hj => by
    have : j.val ≠ m.val := fun h => hj (Fin.ext h)
    unfold dueAt; rw [if_congr (show m.val ≤ j.val ↔ m.val + 1 ≤ j.val by omega) rfl rfl]
  rw [show (dueAt c m m.val : sProp 𝕄) = iprop(dutyTok ER (barCell (peer m c)) 0 m ∗ barPay (peer m c) m) from if_pos (le_refl _),
    show (dueAt c m (m.val + 1) : sProp 𝕄) = iprop(emp) from if_neg (by omega)] at h
  iintro H
  ihave H := h $$ H
  icases H with ⟨H, Hcl⟩
  isplitl [H]; · iexact H
  iapply Hcl; iempintro

theorem barOwed_step (m : Fin 3) (O : CellTallies nD τ sig Unit) :
    O + barOwed c m.val = (O + barOwed c (m.val + 1)) + tallyAt (barCell (peer m c)) () 1 := by
  rw [add_assoc]
  congr 1
  match m with
  | ⟨0, _⟩ => rfl
  | ⟨1, _⟩ => rfl
  | ⟨2, _⟩ => exact (zero_add _).symm

/-- Signalling the partner along mask `m`. -/
theorem step_signal (m : Fin 3) {φ : Fin 6 → ℕ} {n : Dev nD} {s : ℕ} {sm : Sem sig} {a}
    {kk : PUnit → Prog (TpuEff nD τ sig (Elt F) Λ₀ .tc) α}
    (hs : s = m.val) (hn : n = peer m c) (hsm : sm = barS) (ha : a = 1)
    (h : Pre X K R c φ (s + 1) ⊢ WP c (kk ⟨⟩) Q) :
    Pre X K R c φ s ⊢ WP c (.op (.semSignal (Dev.tc n : Thread nD τ) sm a) kk) Q := by
  subst hs hn hsm ha
  have hd := due_step (F := F) (c := c) m
  have hi := inv_at X K (peer m c, none)
  have hr := reached_at X K (peer m c, none)
  unfold Pre at h ⊢
  iintro ⟨Hh, Ht, Hd, Hat, Hc, ⟨%W, HO⟩, #Hrec, #Hlev, HR⟩
  ihave Hd := hd $$ Hd
  icases Hd with ⟨⟨Htok, Hpay⟩, Hd⟩
  ihave #Hi := hi $$ Hrec
  ihave #Hr := hr $$ Hrec
  ihave HO := (Entails.of_eq (congrArg (fun O => owes (c : Thread nD τ) O W) (barOwed_step m (owed (fun _ => 0) c)))) $$ HO
  iapply (Rounds.wp_signal 𝒱₀ ER (Rd X) (c : Thread nD τ) none (dst := (peer m c : Thread nD τ)) (κ := K (peer m c, none)) (r := 0)
      (d := m) (by rw [duties_bar X (peer m c)]; exact Finset.mem_univ _) ((amount_bar X (peer m c) m).trans (by decide)) () (owed (fun _ => 0) c + barOwed c (m.val + 1)) rfl)
    $$ [HO Htok Hpay]
  · isplitr; · iexact Hi
    isplitl [HO]; · iexact HO
    isplitl [Htok]; · iexact Htok
    isplitl [Hpay]; · rw [payload_bar X (peer m c) m]; iexact Hpay
    iexact Hr
  iintro HO
  iapply h
  isplitl [Hh]; · iexact Hh
  isplitl [Ht]; · iexact Ht
  isplitl [Hd]; · iexact Hd
  isplitl [Hat]; · iexact Hat
  isplitl [Hc]; · iexact Hc
  isplitl [HO]; · iexists W; iexact HO
  isplitr; · iexact Hrec
  isplitr; · iexact Hlev
  iexact HR

/-- Waiting for the partners' three signals. -/
theorem step_barrier {φ : Fin 6 → ℕ} {s : ℕ} {sm : Sem sig} {a}
    {kk : PUnit → Prog (TpuEff nD τ sig (Elt F) Λ₀ .tc) α}
    (hφ : ∀ p, φ p ≤ 1) (hs : s = 3) (hsm : sm = barS) (ha : a = 3)
    (h : St X K iprop(semVal (barCell c) 0 ∗ R) φ c ⊢ WP c (kk ⟨⟩) Q) :
    Pre X K R c φ s ⊢ WP c (.op (.semWait sm a) kk) Q := by
  subst hs hsm ha
  have hi := inv_at X K (c, none)
  have hO : owed (fun _ => 0) c = owed φ c := by
    unfold owed
    refine Finset.sum_congr rfl fun pk _ => ?_
    have := hφ pk.1
    unfold owedAt; rw [if_pos (Nat.zero_le _), if_pos (by omega)]
  have hmw := mayWait (F := F) c (.reg barS) φ 1 (fun u => le_of_eq rfl) (fun p k _ => by omega)
  have hparts : iprop(bigSep Finset.univ (fun p => held X p c (φ p)) ∗ bigSep Finset.univ (fun p : Fin 6 => bigSep Finset.univ fun k : Fin 6 => tok0 p k c)
      ∗ bigSep Finset.univ (fun p : Fin 6 => bigSep Finset.univ fun k : Fin 3 => landTo p k.val c)) ⊢ bigSep Finset.univ (fun p => part X p c (φ p)) := by
    have e1 : iprop(bigSep Finset.univ (fun p : Fin 6 => bigSep Finset.univ fun k : Fin 6 => tok0 (F := F) p k c)
        ∗ bigSep Finset.univ (fun p : Fin 6 => bigSep Finset.univ fun k : Fin 3 => landTo (F := F) p k.val c) ∗ bigSep Finset.univ (fun p => held X p c (φ p)))
        = bigSep Finset.univ (fun p : Fin 6 => iprop(bigSep Finset.univ (fun k : Fin 6 => tok0 p k c) ∗ bigSep Finset.univ (fun k : Fin 3 => landTo p k.val c) ∗ held X p c (φ p))) := by
      refine Eq.symm ((bigSep_sep _ _ _).trans ?_)
      exact congrArg (fun x => iprop(_ ∗ x)) (bigSep_sep _ _ _)
    refine BIBase.Entails.trans ?_ ((Entails.of_eq e1).trans (bigSep_mono fun p _ => stages_start X c p (hφ p)))
    iintro ⟨H1, H2, H3⟩
    isplitl [H2]; · iexact H2
    isplitl [H3]; · iexact H3
    iexact H1
  unfold St at h
  unfold Pre
  rw [show owed (fun _ => 0) c + barOwed c 3 = owed φ c from (add_zero _).trans hO]
  iintro ⟨Hh, Ht, Hd, Hat, Hc, ⟨%W, HO⟩, #Hrec, #Hlev, HR⟩
  ihave #Hi := hi $$ Hrec
  iapply (Rounds.wp_wait_rest_token 𝒱₀ ER (Rd X) (c : Thread nD τ) none (κ := K (c, none))
      (wpE_semWait_eq 𝒱₀ (c : Thread nD τ) none Set.univ) (Set.mem_univ _) () (O := owed φ c) (W := W) (R := 0) (m := 0) (T := ∅)
      (by rw [expect_bar X c])) $$ [Hc HO Hat]
  · isplitr; · iexact Hi
    isplitl [Hc]; · iexact Hc
    isplitl [HO]; · iexact HO
    isplitr; · iapply hmw; iexact Hlev
    iexact Hat
  iintro ⟨HO, Hat, -, Hpay⟩
  ihave Hpay := (Entails.of_eq ((rest_bar X c).trans (barPay_all c))) $$ Hpay
  imod (Rounds.cell_close ER (Rd X) (Set.mem_univ (K (c, none))) (fun h => h) (R := 0 + 1) (duties_later X (barCell c))) $$ [Hat] with Hz
  · isplitr; · iexact Hi
    iexact Hat
  iapply h
  isplitl [Hh Ht Hpay]
  · iapply hparts
    isplitl [Hh]; · iexact Hh
    isplitl [Ht]; · iexact Ht
    iexact Hpay
  isplitl [HO]; · iexists _; iexact HO
  isplitr; · iexact Hrec
  isplitr; · iexact Hlev
  isplitl [Hz]; · iexact Hz
  iexact HR

end Entry

/-! ## Opening bands and inputs -/

section Opening
variable (X : Dev nD → OB F) (K : Dev nD × Option (Fin 72) → ℕ) (R R' : sProp (MT nD τ sig Unit (Elt F) ℕ UU ℕ)) (c : Dev nD)

theorem band_ne (b : Fin 3) : lft b ≠ rgt b := fun h => by have := congrArg Fin.val h; simp only at this; omega

/-- Both halves of band `b` at phase `n`. -/
abbrev bandAt (φ : Fin 6 → ℕ) (b : Fin 3) (n : ℕ) : Fin 6 → ℕ := Function.update (Function.update φ (lft b) n) (rgt b) n

theorem bandAt_l (φ : Fin 6 → ℕ) (b : Fin 3) (n : ℕ) : bandAt φ b n (lft b) = n := by
  unfold bandAt; rw [Function.update_of_ne (band_ne b), Function.update_self]
theorem bandAt_r (φ : Fin 6 → ℕ) (b : Fin 3) (n : ℕ) : bandAt φ b n (rgt b) = n := Function.update_self _ _ _
theorem bandAt_o (φ : Fin 6 → ℕ) (b : Fin 3) (n : ℕ) {j : Fin 6} (h1 : j ≠ lft b) (h2 : j ≠ rgt b) : bandAt φ b n j = φ j := by
  unfold bandAt; rw [Function.update_of_ne h2, Function.update_of_ne h1]
theorem bandAt_same {φ : Fin 6 → ℕ} {b : Fin 3} {n : ℕ} (h1 : φ (lft b) = n) (h2 : φ (rgt b) = n) : bandAt φ b n = φ := by
  funext j
  by_cases h : j = lft b
  · subst h; rw [bandAt_l, h1]
  by_cases h' : j = rgt b
  · subst h'; rw [bandAt_r, h2]
  · exact bandAt_o φ b n h h'

theorem Pre_band (b : Fin 3) {φ : Fin 6 → ℕ} {s : ℕ} (n : ℕ) (h1 : φ (lft b) = 0) (h2 : φ (rgt b) = 0) :
    Pre X K R c φ s ⊢ iprop(held X (lft b) c 0 ∗ held X (rgt b) c 0 ∗ (held X (lft b) c n -∗ held X (rgt b) c n -∗ Pre X K R c (bandAt φ b n) s)) := by
  have h := bigSep_swap2 (fun p => held X p c (φ p)) (fun p => held X p c (bandAt φ b n p)) (lft b) (rgt b) (band_ne b)
    fun j hj hj' => by rw [bandAt_o φ b n hj hj']
  rw [bandAt_l, bandAt_r, h1, h2] at h
  unfold Pre
  iintro ⟨Hh, Ht, Hd, Hat, Hc, HO, #Hrec, #Hlev, HR⟩
  ihave H := h $$ Hh
  icases H with ⟨H1, H2, Hcl⟩
  isplitl [H1]; · iexact H1
  isplitl [H2]; · iexact H2
  iintro H1 H2
  isplitl [Hcl H1 H2]; · iapply Hcl $$ H1 H2
  isplitl [Ht]; · iexact Ht
  isplitl [Hd]; · iexact Hd
  isplitl [Hat]; · iexact Hat
  isplitl [Hc]; · iexact Hc
  isplitl [HO]; · iexact HO
  isplitr; · iexact Hrec
  isplitr; · iexact Hlev
  iexact HR

/-- Up to phase 1 only the rows held change. -/
theorem part_fill (p : Fin 6) {n : ℕ} (hn : n ≤ 1) : part X p c 0 ⊢ iprop(held X p c 0 ∗ (held X p c n -∗ part X p c n)) := by
  have h1 : bigSep Finset.univ (fun k : Fin 6 => stage X p k c 0) = bigSep Finset.univ (fun k : Fin 6 => stage X p k c n) :=
    bigSep_congr fun k _ => by unfold stage; rw [if_pos (by omega), if_pos (by omega)]
  have h2 := lent_same (F := F) p c (n := 0) (n' := n) fun t => by omega
  unfold part
  rw [h1]
  iintro ⟨Hs, Hl, Hh⟩
  isplitl [Hh]; · iexact Hh
  iintro Hh
  isplitl [Hs]; · iexact Hs
  isplitl [Hl]; · iapply h2 $$ Hl
  iexact Hh

theorem St_band (b : Fin 3) {φ : Fin 6 → ℕ} (n : ℕ) (hn : n ≤ 1) (h1 : φ (lft b) = 0) (h2 : φ (rgt b) = 0) :
    St X K R φ c ⊢ iprop(held X (lft b) c 0 ∗ held X (rgt b) c 0 ∗ (held X (lft b) c n -∗ held X (rgt b) c n -∗ St X K R (bandAt φ b n) c)) := by
  have h := bigSep_swap2 (fun p => part X p c (φ p)) (fun p => part X p c (bandAt φ b n p)) (lft b) (rgt b) (band_ne b)
    fun j hj hj' => by rw [bandAt_o φ b n hj hj']
  rw [bandAt_l, bandAt_r, h1, h2] at h
  have hO : owed φ c = owed (bandAt φ b n) c := by
    refine (owed_same c φ (lft b) n fun k => by rw [h1]; omega).trans (owed_same c _ (rgt b) n fun k => ?_)
    rw [Function.update_of_ne (band_ne b).symm, h2]; omega
  have hl := part_fill X c (lft b) hn
  have hr := part_fill X c (rgt b) hn
  unfold St
  rw [← hO]
  iintro ⟨Hp, HO, #Hrec, #Hlev, HR⟩
  ihave H := h $$ Hp
  icases H with ⟨H1, H2, Hcl⟩
  ihave H1 := hl $$ H1
  icases H1 with ⟨H1, Hc1⟩
  ihave H2 := hr $$ H2
  icases H2 with ⟨H2, Hc2⟩
  isplitl [H1]; · iexact H1
  isplitl [H2]; · iexact H2
  iintro H1 H2
  isplitl [Hcl Hc1 Hc2 H1 H2]
  · iapply Hcl $$ [Hc1 H1] [Hc2 H2]
    · iapply Hc1; iexact H1
    · iapply Hc2; iexact H2
  isplitl [HO]; · iexact HO
  isplitr; · iexact Hrec
  isplitr; · iexact Hlev
  iexact HR

theorem Pre_rest {φ : Fin 6 → ℕ} {s : ℕ} : Pre X K R c φ s ⊢ iprop(R ∗ (R' -∗ Pre X K R' c φ s)) := by
  unfold Pre
  iintro ⟨Hh, Ht, Hd, Hat, Hc, HO, #Hrec, #Hlev, HR⟩
  isplitl [HR]; · iexact HR
  iintro HR
  isplitl [Hh]; · iexact Hh
  isplitl [Ht]; · iexact Ht
  isplitl [Hd]; · iexact Hd
  isplitl [Hat]; · iexact Hat
  isplitl [Hc]; · iexact Hc
  isplitl [HO]; · iexact HO
  isplitr; · iexact Hrec
  isplitr; · iexact Hlev
  iexact HR

/-- With the barrier's own semaphore set aside. -/
theorem St_inp_bar {φ : Fin 6 → ℕ} {P : sProp (MT nD τ sig Unit (Elt F) ℕ UU ℕ)} :
    St X K iprop(P ∗ R) φ c ⊢ iprop(R ∗ (R -∗ St X K iprop(P ∗ R) φ c)) := by
  unfold St
  iintro ⟨Hp, HO, #Hrec, #Hlev, ⟨HP, HR⟩⟩
  isplitl [HR]; · iexact HR
  iintro HR
  isplitl [Hp]; · iexact Hp
  isplitl [HO]; · iexact HO
  isplitr; · iexact Hrec
  isplitr; · iexact Hlev
  isplitl [HP]; · iexact HP
  iexact HR

end Opening

end Cert.AllReduce

end
-- ==== Proof.First.lean ====
/-
The run of the kernel: the seven first pieces, up to the last band of the product.
-/
module

public import proofs.«01_k».proof.Proof.Entry

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable {X : Dev nD → OB F} {K : Dev nD × Option (Fin 72) → ℕ} {R : sProp (MT nD τ sig Unit (Elt F) ℕ UU ℕ)} {c : Dev nD}

theorem WP_bind {α β : Type} {S : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)}
    (h : S ⊢ WP c p (fun a => WP c (k a) Q)) : S ⊢ WP c (p >>= k) Q := by
  rw [WP, wp_bind]; exact h

theorem WP_ret {α : Type} {S : sProp (MT nD τ sig Unit (Elt F) ℕ UU ℕ)} {a : α} {Q : α → sProp (MT nD τ sig Unit (Elt F) ℕ UU ℕ)}
    (h : S ⊢ Q a) : S ⊢ WP c (.ret a) Q := by
  rw [WP, wp_ret]
  iintro H
  imodintro
  iapply h; iexact H

theorem WP_device {α : Type} {S : sProp (MT nD τ sig Unit (Elt F) ℕ UU ℕ)} {kk : Dev nD → Prog (TpuEff nD τ sig (Elt F) Λ₀ .tc) α}
    {Q : α → sProp (MT nD τ sig Unit (Elt F) ℕ UU ℕ)} (h : S ⊢ WP c (kk c) Q) : S ⊢ WP c (.op .deviceId kk) Q := by
  rw [WP, wp_deviceId]; exact h

section
variable (a : Vec F S1024x512 .bf16) (b g : Vec F S512x1024 .bf16)

/-- Rows of the first input. -/
abbrev rowsA (off sz : Fin 2 → ℕ) (h) (a : Vec F S1024x512 .bf16) : (Rect.unit (s := S1024x512) off sz h).shape.Idx → Elt F .bf16 :=
  (aM.access (Rect.unit (s := S1024x512) off sz h)).read (Elt F) a

/-- The three bands of rows this device's product is computed in are the rows of `X c`. -/
structure Bands (X : OB F) (a : Vec F S1024x512 .bf16) (b : Vec F S512x1024 .bf16) : Prop where
  b0 : ∀ h, IsBand (k0_pay3 (k0_pay2 (rowsA ![0, 0] S384x512.size h a)) b) X 0
  b1 : ∀ h, IsBand (k0_pay4 (rowsA ![384, 0] S384x512.size h a) b) X 384
  b2 : ∀ h, IsBand (k0_pay5 (rowsA ![768, 0] S256x512.size h a) b) X 768

variable {a b g}

theorem pay1_id (b : Vec F S512x1024 .bf16) : k0_pay1 b = b := by
  unfold k0_pay1; simp only [shapeCast_self]

theorem run1 {Q} {h0 h1 h2 h3 h4} {S : sProp (MT nD τ sig Unit (Elt F) ℕ UU ℕ)} (h : ∀ v2 v12 v31 v32 v37, S ⊢ Q ⟨c, v2, v12, v31, v32, v37⟩) :
    S ⊢ WP c (k0_part1 aM h0 bM h1 oM h2 gM h3 rM h4 cc0_scratch2 cc0_scratch3) Q := by
  rw [k0_part1_eq_skeleton]; unfold k0_part1_skel
  simp only [Prog.lift, Prog.bind_op, Prog.bind_ret, Prog.pure_eq_ret]
  exact WP_device (WP_ret (h _ _ _ _ _))

theorem run2 {Q} {h0 h1 h2 h3 h4} {φ : Fin 6 → ℕ} (v2 : BitVec 32) (v31 : BitVec 32) (v32 : BitVec 32) (v37 : BitVec 1)
    (h : ∀ v39 v66 u, Pre X K R c φ 2 ⊢ Q ⟨v39, v66, SemArray.scalar (sig.barrier 0 rfl), u⟩) :
    Pre X K R c φ 0 ⊢ WP c (k0_part2 aM h0 bM h1 oM h2 gM h3 rM h4 cc0_scratch2 cc0_scratch3 c v2 v31 v32 v37) Q := by
  rw [k0_part2_eq_skeleton]; unfold k0_part2_skel
  simp only [semSignalWord, semWaitWord, Prog.lift, Prog.bind_op, Prog.bind_ret, Prog.pure_eq_ret, wp_deviceId]
  refine step_signal 0 rfl (dev1 c) rfl rfl ?_
  refine step_signal 1 rfl (dev2 c) rfl rfl ?_
  exact WP_ret (h _ _ _)

theorem run3 {Q} {h0 h1 h2 h3 h4} {φ : Fin 6 → ℕ} (v2 : BitVec 32) (v12 : BitVec 32) (v39 : BitVec 32) (v66 : BitVec 32) (u : BitVec 32)
    (h : ∀ v77 v79 v84 v89 v94 v99 v104, Pre X K R c φ 3 ⊢ Q ⟨v77, v79, v84, v89, v94, v99, v104⟩) :
    Pre X K R c φ 2 ⊢ WP c (k0_part3 aM h0 bM h1 oM h2 gM h3 rM h4 cc0_scratch2 cc0_scratch3 c v2 v12 v39 v66 (SemArray.scalar (sig.barrier 0 rfl)) u) Q := by
  rw [k0_part3_eq_skeleton]; unfold k0_part3_skel
  simp only [semSignalWord, semWaitWord, Prog.lift, Prog.bind_op, Prog.bind_ret, Prog.pure_eq_ret, wp_deviceId]
  refine step_signal 2 rfl (dev3 c) rfl rfl ?_
  exact WP_ret (h _ _ _ _ _ _ _)

theorem run4 {Q} {h0 h1 h2 h3 h4} {S : sProp (MT nD τ sig Unit (Elt F) ℕ UU ℕ)} (v12 : BitVec 32) (v39 : BitVec 32) (v66 : BitVec 32) (v77 : BitVec 32)
    (h : ∀ v109 v114 v119 v124 v129 v134 v139 v141, S ⊢ Q ⟨v109, v114, v119, v124, v129, v134, v139, v141⟩) :
    S ⊢ WP c (k0_part4 aM h0 bM h1 oM h2 gM h3 rM h4 cc0_scratch2 cc0_scratch3 v12 v39 v66 v77) Q := by
  rw [k0_part4_eq_skeleton]; unfold k0_part4_skel
  simp only [Prog.lift, Prog.bind_op, Prog.bind_ret, Prog.pure_eq_ret]
  exact WP_ret (h _ _ _ _ _ _ _ _)

theorem run5 {Q} {h0 h1 h2 h3 h4} (v12 : BitVec 32) (v39 : BitVec 32) (v66 : BitVec 32) (v139 : BitVec 32) (v141 : BitVec 32)
    (h : ∀ v144 v149 v154 v159 v164 hi, Pre X K (inp c a b b) c (fun _ => 0) 3 ⊢ Q ⟨v144, v149, v154, v159, v164, k0_pay2 (rowsA ![0, 0] S384x512.size hi a)⟩) :
    Pre X K (inp c a b g) c (fun _ => 0) 3 ⊢ WP c (k0_part5 aM h0 bM h1 oM h2 gM h3 rM h4 cc0_scratch2 cc0_scratch3 v12 v39 v66 v139 v141) Q := by
  rw [k0_part5_eq_skeleton]; unfold k0_part5_skel
  simp only [semSignalWord, semWaitWord, Prog.lift, Prog.bind_op, Prog.bind_ret, Prog.pure_eq_ret, wp_deviceId]
  refine load_b (Pre_rest _ _ _ _ _) ?_
  refine load_g (Pre_rest _ _ _ _ _) ?_
  rw [pay1_id]
  refine store_g (Pre_rest _ _ _ _ _) ?_
  refine load_a (Pre_rest _ _ _ _ _) ?_
  exact WP_ret (h _ _ _ _ _ _)

theorem run6 {Q} {h0 h1 h2 h3 h4} (v2 : BitVec 32) (v174 : FVec F S384x512 .bf16) (hX : Bands (X c) a b) (hi) (h174 : v174 = k0_pay2 (rowsA ![0, 0] S384x512.size hi a))
    (h : ∀ v179 v188 v201, IsBand v201 (X c) 384 → St X K iprop(semVal (barCell c) 0 ∗ inp c a b b) ![2, 0, 0, 2, 0, 0] c ⊢ Q ⟨v179, v188, v201⟩) :
    Pre X K (inp c a b b) c (fun _ => 0) 3 ⊢ WP c (k0_part6 aM h0 bM h1 oM h2 gM h3 rM h4 cc0_scratch2 cc0_scratch3 c v2 (SemArray.scalar (sig.barrier 0 rfl)) v174) Q := by
  subst h174
  have hl : bandAt (fun _ => 0) 0 0 = fun _ => 0 := bandAt_same rfl rfl
  have hb := Pre_band (X := X) (K := K) (R := inp c a b b) (c := c) 0 (φ := fun _ => 0) (s := 3) 0 rfl rfl
  rw [hl] at hb
  rw [k0_part6_eq_skeleton]; unfold k0_part6_skel
  simp only [semSignalWord, semWaitWord, Prog.lift, Prog.bind_op, Prog.bind_ret, Prog.pure_eq_ret, wp_deviceId]
  refine load_g (Pre_rest _ _ _ _ _) ?_
  refine load_band 0 (by decide) (by decide) hb fun _ => ?_
  refine store_band 0 (by decide) (by decide) (hX.b0 _) (Pre_band _ _ _ _ 0 1 rfl rfl) ?_
  refine step_barrier (by decide) rfl rfl rfl ?_
  refine step_send_down 0 0 (by decide) rfl (φ' := ![2, 0, 0, 1, 0, 0]) (by decide) (by decide) (off1 c) (by decide) (dev4 c) rfl rfl ?_
  refine step_send_down 3 0 (by decide) rfl (φ' := ![2, 0, 0, 2, 0, 0]) (by decide) (by decide) (off2 c) (by decide) (dev5 c) rfl rfl ?_
  refine load_a (St_inp_bar _ _ _ _) ?_
  refine load_g (St_inp_bar _ _ _ _) ?_
  have hb := St_band (X := X) (K := K) (R := iprop(semVal (barCell c) 0 ∗ inp c a b b)) (c := c) 1 (φ := ![2, 0, 0, 2, 0, 0]) 0 (by decide) rfl rfl
  rw [show bandAt ![2, 0, 0, 2, 0, 0] 1 0 = _ from bandAt_same rfl rfl] at hb
  refine load_band 1 (by decide) (by decide) hb fun _ => ?_
  exact WP_ret (h _ _ _ (hX.b1 _))

theorem run7 {Q} {h0 h1 h2 h3 h4} (v2 : BitVec 32) (v201 : FVec F S384x1024 .bf16) (hX : Bands (X c) a b) (h201 : IsBand v201 (X c) 384)
    (h : ∀ v203 v212 v227, St X K iprop(semVal (barCell c) 0 ∗ inp c a b b) ![2, 2, 1, 2, 2, 1] c ⊢ Q ⟨v203, v212, v227⟩) :
    St X K iprop(semVal (barCell c) 0 ∗ inp c a b b) ![2, 0, 0, 2, 0, 0] c ⊢ WP c (k0_part7 aM h0 bM h1 oM h2 gM h3 rM h4 cc0_scratch2 cc0_scratch3 c v2 v201) Q := by
  rw [k0_part7_eq_skeleton]; unfold k0_part7_skel
  simp only [semSignalWord, semWaitWord, Prog.lift, Prog.bind_op, Prog.bind_ret, Prog.pure_eq_ret, wp_deviceId]
  refine store_band 1 (by decide) (by decide) h201 (St_band _ _ _ _ 1 1 (by decide) rfl rfl) ?_
  refine step_send_down 1 0 (by decide) rfl (φ' := ![2, 2, 0, 2, 1, 0]) (by decide) (by decide) (off3 c) (by decide) (dev6 c) rfl rfl ?_
  refine step_send_down 4 0 (by decide) rfl (φ' := ![2, 2, 0, 2, 2, 0]) (by decide) (by decide) (off4 c) (by decide) (dev7 c) rfl rfl ?_
  refine load_a (St_inp_bar _ _ _ _) ?_
  refine load_g (St_inp_bar _ _ _ _) ?_
  have hb := St_band (X := X) (K := K) (R := iprop(semVal (barCell c) 0 ∗ inp c a b b)) (c := c) 2 (φ := ![2, 2, 0, 2, 2, 0]) 0 (by decide) rfl rfl
  rw [show bandAt ![2, 2, 0, 2, 2, 0] 2 0 = _ from bandAt_same rfl rfl] at hb
  refine load_band 2 (by decide) (by decide) hb fun _ => ?_
  refine store_band 2 (by decide) (by decide) (hX.b2 _) (St_band _ _ _ _ 2 1 (by decide) rfl rfl) ?_
  have he : bandAt ![2, 2, 0, 2, 2, 0] 2 1 = ![2, 2, 1, 2, 2, 1] := by decide
  rw [he]
  exact WP_ret (h _ _ _)
end

end

end Cert.AllReduce

end
-- ==== Proof.RunDown.lean ====
/-
The run of the kernel: the pieces that add up.
-/
module

public import proofs.«01_k».proof.Proof.First

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable {X : Dev nD → OB F} {K : Dev nD × Option (Fin 72) → ℕ} {R : sProp (MT nD τ sig Unit (Elt F) ℕ UU ℕ)} {c : Dev nD}

theorem run8 {Q} {h0 h1 h2 h3 h4} (v2 : BitVec 32) (v79 : BitVec 32) (v179 : BitVec 32)
    (h : ∀ v236 u8_1, IsBlk u8_1 (acc X 0 1 c) (cur 0 c 1) (col 0) → St X K R ![4, 2, 2, 2, 2, 2] c ⊢ Q ⟨v236, u8_1⟩) :
    St X K R ![2, 2, 1, 2, 2, 1] c ⊢ WP c (k0_part8 aM h0 bM h1 oM h2 gM h3 rM h4 cc0_scratch2 cc0_scratch3 c v2 v79 v179) Q := by
  rw [k0_part8_eq_skeleton]; unfold k0_part8_skel
  simp only [semSignalWord, semWaitWord, Prog.lift, Prog.bind_op, Prog.bind_ret, Prog.pure_eq_ret, wp_deviceId]
  refine step_send_down 2 0 (by decide) rfl (φ' := ![2, 2, 2, 2, 2, 1]) (by decide) (by decide) (off5 c) (by decide) (dev8 c) rfl rfl ?_
  refine step_send_down 5 0 (by decide) rfl (φ' := ![2, 2, 2, 2, 2, 2]) (by decide) (by decide) (off6 c) (by decide) (dev9 c) rfl rfl ?_
  refine step_wait_send 0 0 rfl (φ' := ![3, 2, 2, 2, 2, 2]) (by decide) rfl rfl ?_
  refine step_wait_recv 0 0 rfl (φ' := ![4, 2, 2, 2, 2, 2]) (by decide) (by decide) rfl rfl ?_
  refine step_load_o 0 0 (by decide) rfl (by decide) (off7 c) fun v256 hv256 => ?_
  refine step_load_r 0 0 (by decide) rfl (by decide) (by decide) fun v258 hv258 => ?_
  exact WP_ret (h _ _ (by unfold k0_pay6; exact blk_add hv256 hv258))

theorem run9 {Q} {h0 h1 h2 h3 h4} (v2 : BitVec 32) (v79 : BitVec 32) (v94 : BitVec 32) (v203 : BitVec 32) (v259 : FVec F S192x512 .bf16) (hv259 : IsBlk v259 (acc X 0 1 c) (cur 0 c 1) (col 0))
    (h : ∀ v262 u9_1, St X K R ![6, 5, 2, 2, 2, 2] c ⊢ Q ⟨v262, u9_1⟩) :
    St X K R ![4, 2, 2, 2, 2, 2] c ⊢ WP c (k0_part9 aM h0 bM h1 oM h2 gM h3 rM h4 cc0_scratch2 cc0_scratch3 c v2 v79 v94 v203 v259) Q := by
  rw [k0_part9_eq_skeleton]; unfold k0_part9_skel
  simp only [semSignalWord, semWaitWord, Prog.lift, Prog.bind_op, Prog.bind_ret, Prog.pure_eq_ret, wp_deviceId]
  refine step_load_o 0 0 (by decide) rfl (by decide) (off7 c) fun v261 hv261 => ?_
  refine step_store 0 0 (by decide) rfl (φ' := ![5, 2, 2, 2, 2, 2]) (by decide) (by decide) (off7 c) (blk_nxt (by decide) (hv259)) ?_
  refine step_send_down 0 1 (by decide) rfl (φ' := ![6, 2, 2, 2, 2, 2]) (by decide) (by decide) (off8 c) (by decide) (dev10 c) rfl rfl ?_
  refine step_wait_send 1 0 rfl (φ' := ![6, 3, 2, 2, 2, 2]) (by decide) rfl rfl ?_
  refine step_wait_recv 1 0 rfl (φ' := ![6, 4, 2, 2, 2, 2]) (by decide) (by decide) rfl rfl ?_
  refine step_load_o 1 0 (by decide) rfl (by decide) (off9 c) fun v282 hv282 => ?_
  refine step_load_r 1 0 (by decide) rfl (by decide) (by decide) fun v284 hv284 => ?_
  refine step_load_o 1 0 (by decide) rfl (by decide) (off9 c) fun v287 hv287 => ?_
  refine step_store 1 0 (by decide) rfl (φ' := ![6, 5, 2, 2, 2, 2]) (by decide) (by decide) (off9 c) (by unfold k0_pay7; exact blk_nxt (by decide) (blk_add hv282 hv284)) ?_
  exact WP_ret (h _ _)

theorem run10 {Q} {h0 h1 h2 h3 h4} (v2 : BitVec 32) (v109 : BitVec 32) (v227 : BitVec 32) (c4_i32_201 : BitVec 32)
    (h : ∀ v288 v314 v315, St X K R ![6, 6, 5, 2, 2, 2] c ⊢ Q ⟨v288, v314, v315⟩) :
    St X K R ![6, 5, 2, 2, 2, 2] c ⊢ WP c (k0_part10 aM h0 bM h1 oM h2 gM h3 rM h4 cc0_scratch2 cc0_scratch3 c v2 v109 v227 c4_i32_201) Q := by
  rw [k0_part10_eq_skeleton]; unfold k0_part10_skel
  simp only [semSignalWord, semWaitWord, Prog.lift, Prog.bind_op, Prog.bind_ret, Prog.pure_eq_ret, wp_deviceId]
  refine step_send_down 1 1 (by decide) rfl (φ' := ![6, 6, 2, 2, 2, 2]) (by decide) (by decide) (off10 c) (by decide) (dev11 c) rfl rfl ?_
  refine step_wait_send 2 0 rfl (φ' := ![6, 6, 3, 2, 2, 2]) (by decide) rfl rfl ?_
  refine step_wait_recv 2 0 rfl (φ' := ![6, 6, 4, 2, 2, 2]) (by decide) (by decide) rfl rfl ?_
  refine step_load_o 2 0 (by decide) rfl (by decide) (off11 c) fun v308 hv308 => ?_
  refine step_load_r 2 0 (by decide) rfl (by decide) (by decide) fun v310 hv310 => ?_
  refine step_load_o 2 0 (by decide) rfl (by decide) (off11 c) fun v313 hv313 => ?_
  refine step_store 2 0 (by decide) rfl (φ' := ![6, 6, 5, 2, 2, 2]) (by decide) (by decide) (off11 c) (by unfold k0_pay8; exact blk_nxt (by decide) (blk_add hv308 hv310)) ?_
  exact WP_ret (h _ _ _)

theorem run11 {Q} {h0 h1 h2 h3 h4} (v2 : BitVec 32) (v124 : BitVec 32) (v188 : BitVec 32) (v315 : BitVec 32)
    (h : ∀ v340, St X K R ![6, 6, 6, 5, 2, 2] c ⊢ Q v340) :
    St X K R ![6, 6, 5, 2, 2, 2] c ⊢ WP c (k0_part11 aM h0 bM h1 oM h2 gM h3 rM h4 cc0_scratch2 cc0_scratch3 c v2 v124 v188 v315) Q := by
  rw [k0_part11_eq_skeleton]; unfold k0_part11_skel
  simp only [semSignalWord, semWaitWord, Prog.lift, Prog.bind_op, Prog.bind_ret, Prog.pure_eq_ret, wp_deviceId]
  refine step_send_down 2 1 (by decide) rfl (φ' := ![6, 6, 6, 2, 2, 2]) (by decide) (by decide) (off12 c) (by decide) (dev12 c) rfl rfl ?_
  refine step_wait_send 3 0 rfl (φ' := ![6, 6, 6, 3, 2, 2]) (by decide) rfl rfl ?_
  refine step_wait_recv 3 0 rfl (φ' := ![6, 6, 6, 4, 2, 2]) (by decide) (by decide) rfl rfl ?_
  refine step_load_o 3 0 (by decide) rfl (by decide) (off13 c) fun v334 hv334 => ?_
  refine step_load_r 3 0 (by decide) rfl (by decide) (by decide) fun v336 hv336 => ?_
  refine step_load_o 3 0 (by decide) rfl (by decide) (off13 c) fun v339 hv339 => ?_
  refine step_store 3 0 (by decide) rfl (φ' := ![6, 6, 6, 5, 2, 2]) (by decide) (by decide) (off13 c) (by unfold k0_pay9; exact blk_nxt (by decide) (blk_add hv334 hv336)) ?_
  exact WP_ret (h _)

theorem run12 {Q} {h0 h1 h2 h3 h4} (v2 : BitVec 32) (v139 : BitVec 32) (v212 : BitVec 32)
    (h : ∀ v366, St X K R ![6, 6, 6, 6, 5, 2] c ⊢ Q v366) :
    St X K R ![6, 6, 6, 5, 2, 2] c ⊢ WP c (k0_part12 aM h0 bM h1 oM h2 gM h3 rM h4 cc0_scratch2 cc0_scratch3 c v2 v139 v212) Q := by
  rw [k0_part12_eq_skeleton]; unfold k0_part12_skel
  simp only [semSignalWord, semWaitWord, Prog.lift, Prog.bind_op, Prog.bind_ret, Prog.pure_eq_ret, wp_deviceId]
  refine step_send_down 3 1 (by decide) rfl (φ' := ![6, 6, 6, 6, 2, 2]) (by decide) (by decide) (off14 c) (by decide) (dev13 c) rfl rfl ?_
  refine step_wait_send 4 0 rfl (φ' := ![6, 6, 6, 6, 3, 2]) (by decide) rfl rfl ?_
  refine step_wait_recv 4 0 rfl (φ' := ![6, 6, 6, 6, 4, 2]) (by decide) (by decide) rfl rfl ?_
  refine step_load_o 4 0 (by decide) rfl (by decide) (off15 c) fun v360 hv360 => ?_
  refine step_load_r 4 0 (by decide) rfl (by decide) (by decide) fun v362 hv362 => ?_
  refine step_load_o 4 0 (by decide) rfl (by decide) (off15 c) fun v365 hv365 => ?_
  refine step_store 4 0 (by decide) rfl (φ' := ![6, 6, 6, 6, 5, 2]) (by decide) (by decide) (off15 c) (by unfold k0_pay10; exact blk_nxt (by decide) (blk_add hv360 hv362)) ?_
  exact WP_ret (h _)

theorem run13 {Q} {h0 h1 h2 h3 h4} (v2 : BitVec 32) (v154 : BitVec 32) (v236 : BitVec 32)
    (h : ∀ v392, St X K R ![6, 6, 6, 6, 6, 6] c ⊢ Q v392) :
    St X K R ![6, 6, 6, 6, 5, 2] c ⊢ WP c (k0_part13 aM h0 bM h1 oM h2 gM h3 rM h4 cc0_scratch2 cc0_scratch3 c v2 v154 v236) Q := by
  rw [k0_part13_eq_skeleton]; unfold k0_part13_skel
  simp only [semSignalWord, semWaitWord, Prog.lift, Prog.bind_op, Prog.bind_ret, Prog.pure_eq_ret, wp_deviceId]
  refine step_send_down 4 1 (by decide) rfl (φ' := ![6, 6, 6, 6, 6, 2]) (by decide) (by decide) (off16 c) (by decide) (dev14 c) rfl rfl ?_
  refine step_wait_send 5 0 rfl (φ' := ![6, 6, 6, 6, 6, 3]) (by decide) rfl rfl ?_
  refine step_wait_recv 5 0 rfl (φ' := ![6, 6, 6, 6, 6, 4]) (by decide) (by decide) rfl rfl ?_
  refine step_load_o 5 0 (by decide) rfl (by decide) (off17 c) fun v386 hv386 => ?_
  refine step_load_r 5 0 (by decide) rfl (by decide) (by decide) fun v388 hv388 => ?_
  refine step_load_o 5 0 (by decide) rfl (by decide) (off17 c) fun v391 hv391 => ?_
  refine step_store 5 0 (by decide) rfl (φ' := ![6, 6, 6, 6, 6, 5]) (by decide) (by decide) (off17 c) (by unfold k0_pay11; exact blk_nxt (by decide) (blk_add hv386 hv388)) ?_
  refine step_send_down 5 1 (by decide) rfl (φ' := ![6, 6, 6, 6, 6, 6]) (by decide) (by decide) (off18 c) (by decide) (dev15 c) rfl rfl ?_
  exact WP_ret (h _)

theorem run14 {Q} {h0 h1 h2 h3 h4} (v2 : BitVec 32) (v84 : BitVec 32) (v262 : BitVec 32)
    (h : ∀ v418, St X K R ![10, 6, 6, 6, 6, 6] c ⊢ Q v418) :
    St X K R ![6, 6, 6, 6, 6, 6] c ⊢ WP c (k0_part14 aM h0 bM h1 oM h2 gM h3 rM h4 cc0_scratch2 cc0_scratch3 c v2 v84 v262) Q := by
  rw [k0_part14_eq_skeleton]; unfold k0_part14_skel
  simp only [semSignalWord, semWaitWord, Prog.lift, Prog.bind_op, Prog.bind_ret, Prog.pure_eq_ret, wp_deviceId]
  refine step_wait_send 0 1 rfl (φ' := ![7, 6, 6, 6, 6, 6]) (by decide) rfl rfl ?_
  refine step_wait_recv 0 1 rfl (φ' := ![8, 6, 6, 6, 6, 6]) (by decide) (by decide) rfl rfl ?_
  refine step_load_o 0 1 (by decide) rfl (by decide) (off19 c) fun v412 hv412 => ?_
  refine step_load_r 0 1 (by decide) rfl (by decide) (by decide) fun v414 hv414 => ?_
  refine step_load_o 0 1 (by decide) rfl (by decide) (off19 c) fun v417 hv417 => ?_
  refine step_store 0 1 (by decide) rfl (φ' := ![9, 6, 6, 6, 6, 6]) (by decide) (by decide) (off19 c) (by unfold k0_pay12; exact blk_nxt (by decide) (blk_add hv412 hv414)) ?_
  refine step_send_down 0 2 (by decide) rfl (φ' := ![10, 6, 6, 6, 6, 6]) (by decide) (by decide) (off20 c) (by decide) (dev16 c) rfl rfl ?_
  exact WP_ret (h _)

theorem run15 {Q} {h0 h1 h2 h3 h4} (v2 : BitVec 32) (v99 : BitVec 32) (v288 : BitVec 32)
    (h : ∀ v444, St X K R ![10, 10, 7, 6, 6, 6] c ⊢ Q v444) :
    St X K R ![10, 6, 6, 6, 6, 6] c ⊢ WP c (k0_part15 aM h0 bM h1 oM h2 gM h3 rM h4 cc0_scratch2 cc0_scratch3 c v2 v99 v288) Q := by
  rw [k0_part15_eq_skeleton]; unfold k0_part15_skel
  simp only [semSignalWord, semWaitWord, Prog.lift, Prog.bind_op, Prog.bind_ret, Prog.pure_eq_ret, wp_deviceId]
  refine step_wait_send 1 1 rfl (φ' := ![10, 7, 6, 6, 6, 6]) (by decide) rfl rfl ?_
  refine step_wait_recv 1 1 rfl (φ' := ![10, 8, 6, 6, 6, 6]) (by decide) (by decide) rfl rfl ?_
  refine step_load_o 1 1 (by decide) rfl (by decide) (off21 c) fun v438 hv438 => ?_
  refine step_load_r 1 1 (by decide) rfl (by decide) (by decide) fun v440 hv440 => ?_
  refine step_load_o 1 1 (by decide) rfl (by decide) (off21 c) fun v443 hv443 => ?_
  refine step_store 1 1 (by decide) rfl (φ' := ![10, 9, 6, 6, 6, 6]) (by decide) (by decide) (off21 c) (by unfold k0_pay13; exact blk_nxt (by decide) (blk_add hv438 hv440)) ?_
  refine step_send_down 1 2 (by decide) rfl (φ' := ![10, 10, 6, 6, 6, 6]) (by decide) (by decide) (off22 c) (by decide) (dev17 c) rfl rfl ?_
  refine step_wait_send 2 1 rfl (φ' := ![10, 10, 7, 6, 6, 6]) (by decide) rfl rfl ?_
  exact WP_ret (h _)

theorem run16 {Q} {h0 h1 h2 h3 h4} (v2 : BitVec 32) (v114 : BitVec 32) (v314 : BitVec 32) (v340 : BitVec 32)
    (h : ∀ v470, St X K R ![10, 10, 10, 7, 6, 6] c ⊢ Q v470) :
    St X K R ![10, 10, 7, 6, 6, 6] c ⊢ WP c (k0_part16 aM h0 bM h1 oM h2 gM h3 rM h4 cc0_scratch2 cc0_scratch3 c v2 v114 v314 v340) Q := by
  rw [k0_part16_eq_skeleton]; unfold k0_part16_skel
  simp only [semSignalWord, semWaitWord, Prog.lift, Prog.bind_op, Prog.bind_ret, Prog.pure_eq_ret, wp_deviceId]
  refine step_wait_recv 2 1 rfl (φ' := ![10, 10, 8, 6, 6, 6]) (by decide) (by decide) rfl rfl ?_
  refine step_load_o 2 1 (by decide) rfl (by decide) (off23 c) fun v464 hv464 => ?_
  refine step_load_r 2 1 (by decide) rfl (by decide) (by decide) fun v466 hv466 => ?_
  refine step_load_o 2 1 (by decide) rfl (by decide) (off23 c) fun v469 hv469 => ?_
  refine step_store 2 1 (by decide) rfl (φ' := ![10, 10, 9, 6, 6, 6]) (by decide) (by decide) (off23 c) (by unfold k0_pay14; exact blk_nxt (by decide) (blk_add hv464 hv466)) ?_
  refine step_send_down 2 2 (by decide) rfl (φ' := ![10, 10, 10, 6, 6, 6]) (by decide) (by decide) (off24 c) (by decide) (dev18 c) rfl rfl ?_
  refine step_wait_send 3 1 rfl (φ' := ![10, 10, 10, 7, 6, 6]) (by decide) rfl rfl ?_
  exact WP_ret (h _)

theorem run17 {Q} {h0 h1 h2 h3 h4} (v2 : BitVec 32) (v129 : BitVec 32) (v366 : BitVec 32)
    (h : ∀ v496, St X K R ![10, 10, 10, 10, 7, 6] c ⊢ Q v496) :
    St X K R ![10, 10, 10, 7, 6, 6] c ⊢ WP c (k0_part17 aM h0 bM h1 oM h2 gM h3 rM h4 cc0_scratch2 cc0_scratch3 c v2 v129 v366) Q := by
  rw [k0_part17_eq_skeleton]; unfold k0_part17_skel
  simp only [semSignalWord, semWaitWord, Prog.lift, Prog.bind_op, Prog.bind_ret, Prog.pure_eq_ret, wp_deviceId]
  refine step_wait_recv 3 1 rfl (φ' := ![10, 10, 10, 8, 6, 6]) (by decide) (by decide) rfl rfl ?_
  refine step_load_o 3 1 (by decide) rfl (by decide) (off25 c) fun v490 hv490 => ?_
  refine step_load_r 3 1 (by decide) rfl (by decide) (by decide) fun v492 hv492 => ?_
  refine step_load_o 3 1 (by decide) rfl (by decide) (off25 c) fun v495 hv495 => ?_
  refine step_store 3 1 (by decide) rfl (φ' := ![10, 10, 10, 9, 6, 6]) (by decide) (by decide) (off25 c) (by unfold k0_pay15; exact blk_nxt (by decide) (blk_add hv490 hv492)) ?_
  refine step_send_down 3 2 (by decide) rfl (φ' := ![10, 10, 10, 10, 6, 6]) (by decide) (by decide) (off26 c) (by decide) (dev19 c) rfl rfl ?_
  refine step_wait_send 4 1 rfl (φ' := ![10, 10, 10, 10, 7, 6]) (by decide) rfl rfl ?_
  exact WP_ret (h _)

theorem run18 {Q} {h0 h1 h2 h3 h4} (v2 : BitVec 32) (v144 : BitVec 32) (v159 : BitVec 32) (v392 : BitVec 32)
    (h : ∀ v522 v542, IsBlk v542 (acc X 5 1 c) (cur 5 c 2) (col 5) → St X K R ![10, 10, 10, 10, 10, 8] c ⊢ Q ⟨v522, v542⟩) :
    St X K R ![10, 10, 10, 10, 7, 6] c ⊢ WP c (k0_part18 aM h0 bM h1 oM h2 gM h3 rM h4 cc0_scratch2 cc0_scratch3 c v2 v144 v159 v392) Q := by
  rw [k0_part18_eq_skeleton]; unfold k0_part18_skel
  simp only [semSignalWord, semWaitWord, Prog.lift, Prog.bind_op, Prog.bind_ret, Prog.pure_eq_ret, wp_deviceId]
  refine step_wait_recv 4 1 rfl (φ' := ![10, 10, 10, 10, 8, 6]) (by decide) (by decide) rfl rfl ?_
  refine step_load_o 4 1 (by decide) rfl (by decide) (off27 c) fun v516 hv516 => ?_
  refine step_load_r 4 1 (by decide) rfl (by decide) (by decide) fun v518 hv518 => ?_
  refine step_load_o 4 1 (by decide) rfl (by decide) (off27 c) fun v521 hv521 => ?_
  refine step_store 4 1 (by decide) rfl (φ' := ![10, 10, 10, 10, 9, 6]) (by decide) (by decide) (off27 c) (by unfold k0_pay16; exact blk_nxt (by decide) (blk_add hv516 hv518)) ?_
  refine step_send_down 4 2 (by decide) rfl (φ' := ![10, 10, 10, 10, 10, 6]) (by decide) (by decide) (off28 c) (by decide) (dev20 c) rfl rfl ?_
  refine step_wait_send 5 1 rfl (φ' := ![10, 10, 10, 10, 10, 7]) (by decide) rfl rfl ?_
  refine step_wait_recv 5 1 rfl (φ' := ![10, 10, 10, 10, 10, 8]) (by decide) (by decide) rfl rfl ?_
  refine step_load_o 5 1 (by decide) rfl (by decide) (off29 c) fun v542 hv542 => ?_
  exact WP_ret (h _ _ hv542)

theorem run19 {Q} {h0 h1 h2 h3 h4} (v2 : BitVec 32) (v89 : BitVec 32) (v159 : BitVec 32) (v418 : BitVec 32) (v542 : Vec F S64x512 .bf16) (hv542 : IsBlk v542 (acc X 5 1 c) (cur 5 c 2) (col 5))
    (h : ∀ v548 u19_1, IsBlk u19_1 (acc X 0 3 c) (cur 0 c 3) (col 0) → St X K R ![12, 10, 10, 10, 10, 10] c ⊢ Q ⟨v548, u19_1⟩) :
    St X K R ![10, 10, 10, 10, 10, 8] c ⊢ WP c (k0_part19 aM h0 bM h1 oM h2 gM h3 rM h4 cc0_scratch2 cc0_scratch3 c v2 v89 v159 v418 v542) Q := by
  rw [k0_part19_eq_skeleton]; unfold k0_part19_skel
  simp only [semSignalWord, semWaitWord, Prog.lift, Prog.bind_op, Prog.bind_ret, Prog.pure_eq_ret, wp_deviceId]
  refine step_load_r 5 1 (by decide) rfl (by decide) (by decide) fun v544 hv544 => ?_
  refine step_load_o 5 1 (by decide) rfl (by decide) (off29 c) fun v547 hv547 => ?_
  refine step_store 5 1 (by decide) rfl (φ' := ![10, 10, 10, 10, 10, 9]) (by decide) (by decide) (off29 c) (by unfold k0_pay17; exact blk_nxt (by decide) (blk_add hv542 hv544)) ?_
  refine step_send_down 5 2 (by decide) rfl (φ' := ![10, 10, 10, 10, 10, 10]) (by decide) (by decide) (off30 c) (by decide) (dev21 c) rfl rfl ?_
  refine step_wait_send 0 2 rfl (φ' := ![11, 10, 10, 10, 10, 10]) (by decide) rfl rfl ?_
  refine step_wait_recv 0 2 rfl (φ' := ![12, 10, 10, 10, 10, 10]) (by decide) (by decide) rfl rfl ?_
  refine step_load_o 0 2 (by decide) rfl (by decide) (off31 c) fun v568 hv568 => ?_
  refine step_load_r 0 2 (by decide) rfl (by decide) (by decide) fun v570 hv570 => ?_
  exact WP_ret (h _ _ (by unfold k0_pay18; exact blk_add hv568 hv570))

theorem run20 {Q} {h0 h1 h2 h3 h4} (v2 : BitVec 32) (v89 : BitVec 32) (v104 : BitVec 32) (v444 : BitVec 32) (v571 : FVec F S48x512 .bf16) (hv571 : IsBlk v571 (acc X 0 3 c) (cur 0 c 3) (col 0))
    (h : ∀ v576 u20_1, IsBlk u20_1 (nxt X 1 2 c) (cur 1 c 3) (col 1) → St X K R ![14, 12, 10, 10, 10, 10] c ⊢ Q ⟨v576, u20_1⟩) :
    St X K R ![12, 10, 10, 10, 10, 10] c ⊢ WP c (k0_part20 aM h0 bM h1 oM h2 gM h3 rM h4 cc0_scratch2 cc0_scratch3 c v2 v89 v104 v444 v571) Q := by
  rw [k0_part20_eq_skeleton]; unfold k0_part20_skel
  simp only [semSignalWord, semWaitWord, Prog.lift, Prog.bind_op, Prog.bind_ret, Prog.pure_eq_ret, wp_deviceId]
  refine step_load_o 0 2 (by decide) rfl (by decide) (off31 c) fun v575 hv575 => ?_
  refine step_store 0 2 (by decide) rfl (φ' := ![13, 10, 10, 10, 10, 10]) (by decide) (by decide) (off31 c) (by unfold k0_pay19; exact blk_relu hv571) ?_
  refine step_send_up 0 3 2 (by decide) (by decide) rfl (φ' := ![14, 10, 10, 10, 10, 10]) (by decide) (by decide) (off32 c) (off32 c) (dev22 c) rfl rfl ?_
  refine step_wait_send 1 2 rfl (φ' := ![14, 11, 10, 10, 10, 10]) (by decide) rfl rfl ?_
  refine step_wait_recv 1 2 rfl (φ' := ![14, 12, 10, 10, 10, 10]) (by decide) (by decide) rfl rfl ?_
  refine step_load_o 1 2 (by decide) rfl (by decide) (off33 c) fun v596 hv596 => ?_
  refine step_load_r 1 2 (by decide) rfl (by decide) (by decide) fun v598 hv598 => ?_
  exact WP_ret (h _ _ (by unfold k0_pay20; exact blk_relu (blk_add hv596 hv598)))

theorem run21 {Q} {h0 h1 h2 h3 h4} (v2 : BitVec 32) (v104 : BitVec 32) (v119 : BitVec 32) (v470 : BitVec 32) (v601 : FVec F S48x512 .bf16) (hv601 : IsBlk v601 (nxt X 1 2 c) (cur 1 c 3) (col 1))
    (h : ∀ v604 u21_1, IsBlk u21_1 (nxt X 2 2 c) (cur 2 c 3) (col 2) → St X K R ![14, 14, 12, 10, 10, 10] c ⊢ Q ⟨v604, u21_1⟩) :
    St X K R ![14, 12, 10, 10, 10, 10] c ⊢ WP c (k0_part21 aM h0 bM h1 oM h2 gM h3 rM h4 cc0_scratch2 cc0_scratch3 c v2 v104 v119 v470 v601) Q := by
  rw [k0_part21_eq_skeleton]; unfold k0_part21_skel
  simp only [semSignalWord, semWaitWord, Prog.lift, Prog.bind_op, Prog.bind_ret, Prog.pure_eq_ret, wp_deviceId]
  refine step_load_o 1 2 (by decide) rfl (by decide) (off33 c) fun v603 hv603 => ?_
  refine step_store 1 2 (by decide) rfl (φ' := ![14, 13, 10, 10, 10, 10]) (by decide) (by decide) (off33 c) (hv601) ?_
  refine step_send_up 1 3 2 (by decide) (by decide) rfl (φ' := ![14, 14, 10, 10, 10, 10]) (by decide) (by decide) (off34 c) (off34 c) (dev23 c) rfl rfl ?_
  refine step_wait_send 2 2 rfl (φ' := ![14, 14, 11, 10, 10, 10]) (by decide) rfl rfl ?_
  refine step_wait_recv 2 2 rfl (φ' := ![14, 14, 12, 10, 10, 10]) (by decide) (by decide) rfl rfl ?_
  refine step_load_o 2 2 (by decide) rfl (by decide) (off35 c) fun v624 hv624 => ?_
  refine step_load_r 2 2 (by decide) rfl (by decide) (by decide) fun v626 hv626 => ?_
  refine step_load_o 2 2 (by decide) rfl (by decide) (off35 c) fun v631 hv631 => ?_
  exact WP_ret (h _ _ (by unfold k0_pay21; exact blk_relu (blk_add hv624 hv626)))

end

end Cert.AllReduce

end
-- ==== Proof.RunUp.lean ====
/-
The run of the kernel: the pieces that hand the sums round.
-/
module

public import proofs.«01_k».proof.Proof.First

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable {X : Dev nD → OB F} {K : Dev nD × Option (Fin 72) → ℕ} {R : sProp (MT nD τ sig Unit (Elt F) ℕ UU ℕ)} {c : Dev nD}

theorem run22 {Q} {h0 h1 h2 h3 h4} (v2 : BitVec 32) (v134 : BitVec 32) (v496 : BitVec 32) (v629 : FVec F S32x512 .bf16) (hv629 : IsBlk v629 (nxt X 2 2 c) (cur 2 c 3) (col 2))
    (h : ∀ v632 v660, St X K R ![14, 14, 14, 13, 10, 10] c ⊢ Q ⟨v632, v660⟩) :
    St X K R ![14, 14, 12, 10, 10, 10] c ⊢ WP c (k0_part22 aM h0 bM h1 oM h2 gM h3 rM h4 cc0_scratch2 cc0_scratch3 c v2 v134 v496 v629) Q := by
  rw [k0_part22_eq_skeleton]; unfold k0_part22_skel
  simp only [semSignalWord, semWaitWord, Prog.lift, Prog.bind_op, Prog.bind_ret, Prog.pure_eq_ret, wp_deviceId]
  refine step_store 2 2 (by decide) rfl (φ' := ![14, 14, 13, 10, 10, 10]) (by decide) (by decide) (off35 c) (hv629) ?_
  refine step_send_up 2 3 2 (by decide) (by decide) rfl (φ' := ![14, 14, 14, 10, 10, 10]) (by decide) (by decide) (off36 c) (off36 c) (dev24 c) rfl rfl ?_
  refine step_wait_send 3 2 rfl (φ' := ![14, 14, 14, 11, 10, 10]) (by decide) rfl rfl ?_
  refine step_wait_recv 3 2 rfl (φ' := ![14, 14, 14, 12, 10, 10]) (by decide) (by decide) rfl rfl ?_
  refine step_load_o 3 2 (by decide) rfl (by decide) (off37 c) fun v652 hv652 => ?_
  refine step_load_r 3 2 (by decide) rfl (by decide) (by decide) fun v654 hv654 => ?_
  refine step_load_o 3 2 (by decide) rfl (by decide) (off37 c) fun v659 hv659 => ?_
  refine step_store 3 2 (by decide) rfl (φ' := ![14, 14, 14, 13, 10, 10]) (by decide) (by decide) (off37 c) (by unfold k0_pay22; exact blk_relu (blk_add hv652 hv654)) ?_
  exact WP_ret (h _ _)

theorem run23 {Q} {h0 h1 h2 h3 h4} (v2 : BitVec 32) (v149 : BitVec 32) (v522 : BitVec 32) (v660 : BitVec 32)
    (h : ∀ v688 u23_1, St X K R ![14, 14, 14, 14, 13, 10] c ⊢ Q ⟨v688, u23_1⟩) :
    St X K R ![14, 14, 14, 13, 10, 10] c ⊢ WP c (k0_part23 aM h0 bM h1 oM h2 gM h3 rM h4 cc0_scratch2 cc0_scratch3 c v2 v149 v522 v660) Q := by
  rw [k0_part23_eq_skeleton]; unfold k0_part23_skel
  simp only [semSignalWord, semWaitWord, Prog.lift, Prog.bind_op, Prog.bind_ret, Prog.pure_eq_ret, wp_deviceId]
  refine step_send_up 3 3 2 (by decide) (by decide) rfl (φ' := ![14, 14, 14, 14, 10, 10]) (by decide) (by decide) (off38 c) (off38 c) (dev25 c) rfl rfl ?_
  refine step_wait_send 4 2 rfl (φ' := ![14, 14, 14, 14, 11, 10]) (by decide) rfl rfl ?_
  refine step_wait_recv 4 2 rfl (φ' := ![14, 14, 14, 14, 12, 10]) (by decide) (by decide) rfl rfl ?_
  refine step_load_o 4 2 (by decide) rfl (by decide) (off39 c) fun v680 hv680 => ?_
  refine step_load_r 4 2 (by decide) rfl (by decide) (by decide) fun v682 hv682 => ?_
  refine step_load_o 4 2 (by decide) rfl (by decide) (off39 c) fun v687 hv687 => ?_
  refine step_store 4 2 (by decide) rfl (φ' := ![14, 14, 14, 14, 13, 10]) (by decide) (by decide) (off39 c) (by unfold k0_pay23; exact blk_relu (blk_add hv680 hv682)) ?_
  exact WP_ret (h _ _)

theorem run24 {Q} {h0 h1 h2 h3 h4} (v2 : BitVec 32) (v164 : BitVec 32) (v548 : BitVec 32) (v688 : BitVec 32) (c1_i32_555 : BitVec 32)
    (h : ∀ v716, St X K R ![14, 14, 14, 14, 14, 13] c ⊢ Q v716) :
    St X K R ![14, 14, 14, 14, 13, 10] c ⊢ WP c (k0_part24 aM h0 bM h1 oM h2 gM h3 rM h4 cc0_scratch2 cc0_scratch3 c v2 v164 v548 v688 c1_i32_555) Q := by
  rw [k0_part24_eq_skeleton]; unfold k0_part24_skel
  simp only [semSignalWord, semWaitWord, Prog.lift, Prog.bind_op, Prog.bind_ret, Prog.pure_eq_ret, wp_deviceId]
  refine step_send_up 4 3 2 (by decide) (by decide) rfl (φ' := ![14, 14, 14, 14, 14, 10]) (by decide) (by decide) (off40 c) (off40 c) (dev26 c) rfl rfl ?_
  refine step_wait_send 5 2 rfl (φ' := ![14, 14, 14, 14, 14, 11]) (by decide) rfl rfl ?_
  refine step_wait_recv 5 2 rfl (φ' := ![14, 14, 14, 14, 14, 12]) (by decide) (by decide) rfl rfl ?_
  refine step_load_o 5 2 (by decide) rfl (by decide) (off41 c) fun v708 hv708 => ?_
  refine step_load_r 5 2 (by decide) rfl (by decide) (by decide) fun v710 hv710 => ?_
  refine step_load_o 5 2 (by decide) rfl (by decide) (off41 c) fun v715 hv715 => ?_
  refine step_store 5 2 (by decide) rfl (φ' := ![14, 14, 14, 14, 14, 13]) (by decide) (by decide) (off41 c) (by unfold k0_pay24; exact blk_relu (blk_add hv708 hv710)) ?_
  exact WP_ret (h _)

theorem run25 {Q} {h0 h1 h2 h3 h4} (v2 : BitVec 32) (v576 : BitVec 32)
    (h : ∀ v735, St X K R ![18, 15, 14, 14, 14, 14] c ⊢ Q v735) :
    St X K R ![14, 14, 14, 14, 14, 13] c ⊢ WP c (k0_part25 aM h0 bM h1 oM h2 gM h3 rM h4 cc0_scratch2 cc0_scratch3 c v2 v576) Q := by
  rw [k0_part25_eq_skeleton]; unfold k0_part25_skel
  simp only [semSignalWord, semWaitWord, Prog.lift, Prog.bind_op, Prog.bind_ret, Prog.pure_eq_ret, wp_deviceId]
  refine step_send_up 5 3 2 (by decide) (by decide) rfl (φ' := ![14, 14, 14, 14, 14, 14]) (by decide) (by decide) (off42 c) (off42 c) (dev27 c) rfl rfl ?_
  refine step_wait_send 0 3 rfl (φ' := ![15, 14, 14, 14, 14, 14]) (by decide) rfl rfl ?_
  refine step_wait_recv 0 3 rfl (φ' := ![17, 14, 14, 14, 14, 14]) (by decide) (by decide) rfl rfl ?_
  refine step_send_up 0 4 1 (by decide) (by decide) rfl (φ' := ![18, 14, 14, 14, 14, 14]) (by decide) (by decide) (off43 c) (off43 c) (dev28 c) rfl rfl ?_
  refine step_wait_send 1 3 rfl (φ' := ![18, 15, 14, 14, 14, 14]) (by decide) rfl rfl ?_
  exact WP_ret (h _)

theorem run26 {Q} {h0 h1 h2 h3 h4} (v2 : BitVec 32) (v604 : BitVec 32) (v632 : BitVec 32)
    (h : ∀ v754 v773, St X K R ![18, 18, 17, 14, 14, 14] c ⊢ Q ⟨v754, v773⟩) :
    St X K R ![18, 15, 14, 14, 14, 14] c ⊢ WP c (k0_part26 aM h0 bM h1 oM h2 gM h3 rM h4 cc0_scratch2 cc0_scratch3 c v2 v604 v632) Q := by
  rw [k0_part26_eq_skeleton]; unfold k0_part26_skel
  simp only [semSignalWord, semWaitWord, Prog.lift, Prog.bind_op, Prog.bind_ret, Prog.pure_eq_ret, wp_deviceId]
  refine step_wait_recv 1 3 rfl (φ' := ![18, 17, 14, 14, 14, 14]) (by decide) (by decide) rfl rfl ?_
  refine step_send_up 1 4 1 (by decide) (by decide) rfl (φ' := ![18, 18, 14, 14, 14, 14]) (by decide) (by decide) (off44 c) (off44 c) (dev29 c) rfl rfl ?_
  refine step_wait_send 2 3 rfl (φ' := ![18, 18, 15, 14, 14, 14]) (by decide) rfl rfl ?_
  refine step_wait_recv 2 3 rfl (φ' := ![18, 18, 17, 14, 14, 14]) (by decide) (by decide) rfl rfl ?_
  exact WP_ret (h _ _)

theorem run27 {Q} {h0 h1 h2 h3 h4} (v2 : BitVec 32) (v660 : BitVec 32)
    (h : ∀ v792, St X K R ![18, 18, 18, 18, 15, 14] c ⊢ Q v792) :
    St X K R ![18, 18, 17, 14, 14, 14] c ⊢ WP c (k0_part27 aM h0 bM h1 oM h2 gM h3 rM h4 cc0_scratch2 cc0_scratch3 c v2 v660) Q := by
  rw [k0_part27_eq_skeleton]; unfold k0_part27_skel
  simp only [semSignalWord, semWaitWord, Prog.lift, Prog.bind_op, Prog.bind_ret, Prog.pure_eq_ret, wp_deviceId]
  refine step_send_up 2 4 1 (by decide) (by decide) rfl (φ' := ![18, 18, 18, 14, 14, 14]) (by decide) (by decide) (off45 c) (off45 c) (dev30 c) rfl rfl ?_
  refine step_wait_send 3 3 rfl (φ' := ![18, 18, 18, 15, 14, 14]) (by decide) rfl rfl ?_
  refine step_wait_recv 3 3 rfl (φ' := ![18, 18, 18, 17, 14, 14]) (by decide) (by decide) rfl rfl ?_
  refine step_send_up 3 4 1 (by decide) (by decide) rfl (φ' := ![18, 18, 18, 18, 14, 14]) (by decide) (by decide) (off46 c) (off46 c) (dev31 c) rfl rfl ?_
  refine step_wait_send 4 3 rfl (φ' := ![18, 18, 18, 18, 15, 14]) (by decide) rfl rfl ?_
  exact WP_ret (h _)

theorem run28 {Q} {h0 h1 h2 h3 h4} (v2 : BitVec 32) (v688 : BitVec 32) (v716 : BitVec 32)
    (h : ∀ v811 v830, St X K R ![18, 18, 18, 18, 18, 17] c ⊢ Q ⟨v811, v830⟩) :
    St X K R ![18, 18, 18, 18, 15, 14] c ⊢ WP c (k0_part28 aM h0 bM h1 oM h2 gM h3 rM h4 cc0_scratch2 cc0_scratch3 c v2 v688 v716) Q := by
  rw [k0_part28_eq_skeleton]; unfold k0_part28_skel
  simp only [semSignalWord, semWaitWord, Prog.lift, Prog.bind_op, Prog.bind_ret, Prog.pure_eq_ret, wp_deviceId]
  refine step_wait_recv 4 3 rfl (φ' := ![18, 18, 18, 18, 17, 14]) (by decide) (by decide) rfl rfl ?_
  refine step_send_up 4 4 1 (by decide) (by decide) rfl (φ' := ![18, 18, 18, 18, 18, 14]) (by decide) (by decide) (off47 c) (off47 c) (dev32 c) rfl rfl ?_
  refine step_wait_send 5 3 rfl (φ' := ![18, 18, 18, 18, 18, 15]) (by decide) rfl rfl ?_
  refine step_wait_recv 5 3 rfl (φ' := ![18, 18, 18, 18, 18, 17]) (by decide) (by decide) rfl rfl ?_
  exact WP_ret (h _ _)

theorem run29 {Q} {h0 h1 h2 h3 h4} (v2 : BitVec 32) (v735 : BitVec 32)
    (h : ∀ v849, St X K R ![22, 19, 18, 18, 18, 18] c ⊢ Q v849) :
    St X K R ![18, 18, 18, 18, 18, 17] c ⊢ WP c (k0_part29 aM h0 bM h1 oM h2 gM h3 rM h4 cc0_scratch2 cc0_scratch3 c v2 v735) Q := by
  rw [k0_part29_eq_skeleton]; unfold k0_part29_skel
  simp only [semSignalWord, semWaitWord, Prog.lift, Prog.bind_op, Prog.bind_ret, Prog.pure_eq_ret, wp_deviceId]
  refine step_send_up 5 4 1 (by decide) (by decide) rfl (φ' := ![18, 18, 18, 18, 18, 18]) (by decide) (by decide) (off48 c) (off48 c) (dev33 c) rfl rfl ?_
  refine step_wait_send 0 4 rfl (φ' := ![19, 18, 18, 18, 18, 18]) (by decide) rfl rfl ?_
  refine step_wait_recv 0 4 rfl (φ' := ![21, 18, 18, 18, 18, 18]) (by decide) (by decide) rfl rfl ?_
  refine step_send_up 0 5 0 (by decide) (by decide) rfl (φ' := ![22, 18, 18, 18, 18, 18]) (by decide) (by decide) (off49 c) (off49 c) (dev34 c) rfl rfl ?_
  refine step_wait_send 1 4 rfl (φ' := ![22, 19, 18, 18, 18, 18]) (by decide) rfl rfl ?_
  exact WP_ret (h _)

theorem run30 {Q} {h0 h1 h2 h3 h4} (v2 : BitVec 32) (v754 : BitVec 32) (v773 : BitVec 32)
    (h : ∀ v868 v887, St X K R ![22, 22, 21, 18, 18, 18] c ⊢ Q ⟨v868, v887⟩) :
    St X K R ![22, 19, 18, 18, 18, 18] c ⊢ WP c (k0_part30 aM h0 bM h1 oM h2 gM h3 rM h4 cc0_scratch2 cc0_scratch3 c v2 v754 v773) Q := by
  rw [k0_part30_eq_skeleton]; unfold k0_part30_skel
  simp only [semSignalWord, semWaitWord, Prog.lift, Prog.bind_op, Prog.bind_ret, Prog.pure_eq_ret, wp_deviceId]
  refine step_wait_recv 1 4 rfl (φ' := ![22, 21, 18, 18, 18, 18]) (by decide) (by decide) rfl rfl ?_
  refine step_send_up 1 5 0 (by decide) (by decide) rfl (φ' := ![22, 22, 18, 18, 18, 18]) (by decide) (by decide) (off50 c) (off50 c) (dev35 c) rfl rfl ?_
  refine step_wait_send 2 4 rfl (φ' := ![22, 22, 19, 18, 18, 18]) (by decide) rfl rfl ?_
  refine step_wait_recv 2 4 rfl (φ' := ![22, 22, 21, 18, 18, 18]) (by decide) (by decide) rfl rfl ?_
  exact WP_ret (h _ _)

theorem run31 {Q} {h0 h1 h2 h3 h4} (v2 : BitVec 32) (v792 : BitVec 32)
    (h : ∀ v906, St X K R ![22, 22, 22, 22, 19, 18] c ⊢ Q v906) :
    St X K R ![22, 22, 21, 18, 18, 18] c ⊢ WP c (k0_part31 aM h0 bM h1 oM h2 gM h3 rM h4 cc0_scratch2 cc0_scratch3 c v2 v792) Q := by
  rw [k0_part31_eq_skeleton]; unfold k0_part31_skel
  simp only [semSignalWord, semWaitWord, Prog.lift, Prog.bind_op, Prog.bind_ret, Prog.pure_eq_ret, wp_deviceId]
  refine step_send_up 2 5 0 (by decide) (by decide) rfl (φ' := ![22, 22, 22, 18, 18, 18]) (by decide) (by decide) (off51 c) (off51 c) (dev36 c) rfl rfl ?_
  refine step_wait_send 3 4 rfl (φ' := ![22, 22, 22, 19, 18, 18]) (by decide) rfl rfl ?_
  refine step_wait_recv 3 4 rfl (φ' := ![22, 22, 22, 21, 18, 18]) (by decide) (by decide) rfl rfl ?_
  refine step_send_up 3 5 0 (by decide) (by decide) rfl (φ' := ![22, 22, 22, 22, 18, 18]) (by decide) (by decide) (off52 c) (off52 c) (dev37 c) rfl rfl ?_
  refine step_wait_send 4 4 rfl (φ' := ![22, 22, 22, 22, 19, 18]) (by decide) rfl rfl ?_
  exact WP_ret (h _)

theorem run32 {Q} {h0 h1 h2 h3 h4} (v2 : BitVec 32) (v811 : BitVec 32) (v830 : BitVec 32)
    (h : ∀ v925 v944, St X K R ![22, 22, 22, 22, 22, 21] c ⊢ Q ⟨v925, v944⟩) :
    St X K R ![22, 22, 22, 22, 19, 18] c ⊢ WP c (k0_part32 aM h0 bM h1 oM h2 gM h3 rM h4 cc0_scratch2 cc0_scratch3 c v2 v811 v830) Q := by
  rw [k0_part32_eq_skeleton]; unfold k0_part32_skel
  simp only [semSignalWord, semWaitWord, Prog.lift, Prog.bind_op, Prog.bind_ret, Prog.pure_eq_ret, wp_deviceId]
  refine step_wait_recv 4 4 rfl (φ' := ![22, 22, 22, 22, 21, 18]) (by decide) (by decide) rfl rfl ?_
  refine step_send_up 4 5 0 (by decide) (by decide) rfl (φ' := ![22, 22, 22, 22, 22, 18]) (by decide) (by decide) (off53 c) (off53 c) (dev38 c) rfl rfl ?_
  refine step_wait_send 5 4 rfl (φ' := ![22, 22, 22, 22, 22, 19]) (by decide) rfl rfl ?_
  refine step_wait_recv 5 4 rfl (φ' := ![22, 22, 22, 22, 22, 21]) (by decide) (by decide) rfl rfl ?_
  exact WP_ret (h _ _)

theorem run33 {Q} {h0 h1 h2 h3 h4} (v849 : BitVec 32) (v868 : BitVec 32)
    (h : St X K R ![25, 25, 22, 22, 22, 22] c ⊢ Q ⟨⟩) :
    St X K R ![22, 22, 22, 22, 22, 21] c ⊢ WP c (k0_part33 aM h0 bM h1 oM h2 gM h3 rM h4 cc0_scratch2 cc0_scratch3 c v849 v868) Q := by
  rw [k0_part33_eq_skeleton]; unfold k0_part33_skel
  simp only [semSignalWord, semWaitWord, Prog.lift, Prog.bind_op, Prog.bind_ret, Prog.pure_eq_ret, wp_deviceId]
  refine step_send_up 5 5 0 (by decide) (by decide) rfl (φ' := ![22, 22, 22, 22, 22, 22]) (by decide) (by decide) (off54 c) (off54 c) (dev39 c) rfl rfl ?_
  refine step_wait_send 0 5 rfl (φ' := ![23, 22, 22, 22, 22, 22]) (by decide) rfl rfl ?_
  refine step_wait_recv 0 5 rfl (φ' := ![25, 22, 22, 22, 22, 22]) (by decide) (by decide) rfl rfl ?_
  refine step_wait_send 1 5 rfl (φ' := ![25, 23, 22, 22, 22, 22]) (by decide) rfl rfl ?_
  refine step_wait_recv 1 5 rfl (φ' := ![25, 25, 22, 22, 22, 22]) (by decide) (by decide) rfl rfl ?_
  exact WP_ret (h)

theorem run34 {Q} {h0 h1 h2 h3 h4} (v887 : BitVec 32) (v906 : BitVec 32) (v925 : BitVec 32)
    (h : St X K R ![25, 25, 25, 25, 23, 22] c ⊢ Q ⟨⟩) :
    St X K R ![25, 25, 22, 22, 22, 22] c ⊢ WP c (k0_part34 aM h0 bM h1 oM h2 gM h3 rM h4 cc0_scratch2 cc0_scratch3 c v887 v906 v925) Q := by
  rw [k0_part34_eq_skeleton]; unfold k0_part34_skel
  simp only [semSignalWord, semWaitWord, Prog.lift, Prog.bind_op, Prog.bind_ret, Prog.pure_eq_ret, wp_deviceId]
  refine step_wait_send 2 5 rfl (φ' := ![25, 25, 23, 22, 22, 22]) (by decide) rfl rfl ?_
  refine step_wait_recv 2 5 rfl (φ' := ![25, 25, 25, 22, 22, 22]) (by decide) (by decide) rfl rfl ?_
  refine step_wait_send 3 5 rfl (φ' := ![25, 25, 25, 23, 22, 22]) (by decide) rfl rfl ?_
  refine step_wait_recv 3 5 rfl (φ' := ![25, 25, 25, 25, 22, 22]) (by decide) (by decide) rfl rfl ?_
  refine step_wait_send 4 5 rfl (φ' := ![25, 25, 25, 25, 23, 22]) (by decide) rfl rfl ?_
  exact WP_ret (h)

end

end Cert.AllReduce

end
-- ==== Proof.Body.lean ====
/-
The run of the kernel: its pieces put together.
-/
module

public import proofs.«01_k».proof.Proof.RunDown
public import proofs.«01_k».proof.Proof.RunUp

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable {X : Dev nD → OB F} {K : Dev nD × Option (Fin 72) → ℕ} {R : sProp (MT nD τ sig Unit (Elt F) ℕ UU ℕ)} {c : Dev nD}
variable {a : Vec F S1024x512 .bf16} {b g : Vec F S512x1024 .bf16}

/-- The whole of the kernel but its last wait. -/
theorem run35 {Q} {h0 h1 h2 h3 h4} (hX : Bands (X c) a b)
    (h : St X K iprop(semVal (barCell c) 0 ∗ inp c a b b) ![25, 25, 25, 25, 25, 23] c ⊢ Q c) :
    Pre X K (inp c a b g) c (fun _ => 0) 0 ⊢ WP c (k0_part35 aM h0 bM h1 oM h2 gM h3 rM h4 cc0_scratch2 cc0_scratch3) Q := by
  rw [k0_part35_eq_skeleton]; unfold k0_part35_skel
  simp only [semSignalWord, semWaitWord, Prog.lift, Prog.bind_op, Prog.bind_ret, Prog.pure_eq_ret, wp_deviceId]
  refine WP_bind (run1 fun v2 v12 v31 v32 v37 => ?_)
  refine WP_bind (run2 _ _ _ _ fun v39 v66 c4_i32_36 => ?_)
  refine WP_bind (run3 _ _ _ _ _ fun v77 v79 v84 v89 v94 v99 v104 => ?_)
  refine WP_bind (run4 _ _ _ _ fun v109 v114 v119 v124 v129 v134 v139 v141 => ?_)
  refine WP_bind (run5 _ _ _ _ _ fun v144 v149 v154 v159 v164 hi => ?_)
  refine WP_bind (run6 _ _ hX hi rfl fun v179 v188 v201 h201 => ?_)
  refine WP_bind (run7 _ _ hX h201 fun v203 v212 v227 => ?_)
  refine WP_bind (run8 _ _ _ fun v236 v259 hv259 => ?_)
  refine WP_bind (run9 _ _ _ _ _ hv259 fun v262 u9_1 => ?_)
  refine WP_bind (run10 _ _ _ _ fun v288 v314 v315 => ?_)
  refine WP_bind (run11 _ _ _ _ fun v340 => ?_)
  refine WP_bind (run12 _ _ _ fun v366 => ?_)
  refine WP_bind (run13 _ _ _ fun v392 => ?_)
  refine WP_bind (run14 _ _ _ fun v418 => ?_)
  refine WP_bind (run15 _ _ _ fun v444 => ?_)
  refine WP_bind (run16 _ _ _ _ fun v470 => ?_)
  refine WP_bind (run17 _ _ _ fun v496 => ?_)
  refine WP_bind (run18 _ _ _ _ fun v522 v542 hv542 => ?_)
  refine WP_bind (run19 _ _ _ _ _ hv542 fun v548 v571 hv571 => ?_)
  refine WP_bind (run20 _ _ _ _ _ hv571 fun v576 v601 hv601 => ?_)
  refine WP_bind (run21 _ _ _ _ _ hv601 fun v604 v629 hv629 => ?_)
  refine WP_bind (run22 _ _ _ _ hv629 fun v632 v660 => ?_)
  refine WP_bind (run23 _ _ _ _ fun v688 u23_1 => ?_)
  refine WP_bind (run24 _ _ _ _ _ fun v716 => ?_)
  refine WP_bind (run25 _ _ fun v735 => ?_)
  refine WP_bind (run26 _ _ _ fun v754 v773 => ?_)
  refine WP_bind (run27 _ _ fun v792 => ?_)
  refine WP_bind (run28 _ _ _ fun v811 v830 => ?_)
  refine WP_bind (run29 _ _ fun v849 => ?_)
  refine WP_bind (run30 _ _ _ fun v868 v887 => ?_)
  refine WP_bind (run31 _ _ fun v906 => ?_)
  refine WP_bind (run32 _ _ _ fun v925 v944 => ?_)
  refine WP_bind (run33 _ _ ?_)
  refine WP_bind (run34 _ _ _ ?_)
  refine step_wait_recv 4 5 rfl (φ' := ![25, 25, 25, 25, 25, 22]) (by decide) (by decide) rfl rfl ?_
  refine step_wait_send 5 5 rfl (φ' := ![25, 25, 25, 25, 25, 23]) (by decide) rfl rfl ?_
  exact WP_ret h

/-- The kernel's run on one device: from its part of the launch to all six parts of the result finished. -/
theorem run_body {Q} {h0 h1 h2 h3 h4} (hX : Bands (X c) a b)
    (h : St X K iprop(semVal (barCell c) 0 ∗ inp c a b b) ![25, 25, 25, 25, 25, 25] c ⊢ Q ⟨⟩) :
    Pre X K (inp c a b g) c (fun _ => 0) 0 ⊢ WP c (cc0_body aM h0 bM h1 oM h2 gM h3 rM h4 cc0_scratch2 cc0_scratch3) Q := by
  rw [cc0_body_eq_skeleton]; unfold cc0_body_skel
  simp only [semSignalWord, semWaitWord, Prog.lift, Prog.bind_op, Prog.bind_ret, Prog.pure_eq_ret, wp_deviceId]
  refine WP_bind (run35 hX ?_)
  refine step_wait_recv 5 5 rfl (φ' := ![25, 25, 25, 25, 25, 25]) (by decide) (by decide) rfl rfl ?_
  exact WP_ret h
end

end Cert.AllReduce

end
-- ==== Proof.Ends.lean ====
/-
The two ends of a run: the buffers whole before it, cut into the blocks the protocol moves, and joined again after it.
-/
module

public import proofs.«01_k».proof.Proof.Entry
public import proofs.«01_k».proof.Proof.First

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The blocks cover the buffers -/

theorem mem_oSet {r n q : ℕ} {i : S1024x1024.Idx} : i ∈ oSet r n q ↔ (r ≤ (i 0).val ∧ (i 0).val < r + n) ∧ (q ≤ (i 1).val ∧ (i 1).val < q + 512) := by
  unfold oSet; rw [Finset.mem_filter]; exact and_iff_right (Finset.mem_univ _)
theorem mem_rSet {r n q : ℕ} {i : S896x1024.Idx} : i ∈ rSet r n q ↔ (r ≤ (i 0).val ∧ (i 0).val < r + n) ∧ (q ≤ (i 1).val ∧ (i 1).val < q + 512) := by
  unfold rSet; rw [Finset.mem_filter]; exact and_iff_right (Finset.mem_univ _)

/-- The rows and columns of part `p`. -/
abbrev pSet (p : Fin 6) : Finset S1024x1024.Idx := oSet (base p) (rows p) (col p)

/-- The landing block of step `k` of part `p`. -/
abbrev bSet (pk : Fin 6 × Fin 3) : Finset S896x1024.Idx := rSet (boff pk.1 pk.2.val) (sz pk.1 (pk.2.val + 1)) (col pk.1)

theorem part_of_row : ∀ (r : Fin 1024) (h : Fin 2), ∃ p : Fin 6, (base p ≤ r.val ∧ r.val < base p + rows p) ∧ col p = 512 * h.val := by decide +kernel
theorem part_sep : ∀ p p' : Fin 6, p ≠ p' → (base p + rows p ≤ base p' ∨ base p' + rows p' ≤ base p) ∨ (col p + 512 ≤ col p' ∨ col p' + 512 ≤ col p) := by decide
theorem step_of_row : ∀ (r : Fin 896) (h : Fin 2), ∃ (p : Fin 6) (k : Fin 3), (boff p k.val ≤ r.val ∧ r.val < boff p k.val + sz p (k.val + 1)) ∧ col p = 512 * h.val := by decide +kernel
theorem step_sep : ∀ a b : Fin 6 × Fin 3, a ≠ b → (boff a.1 a.2.val + sz a.1 (a.2.val + 1) ≤ boff b.1 b.2.val ∨ boff b.1 b.2.val + sz b.1 (b.2.val + 1) ≤ boff a.1 a.2.val)
    ∨ (col a.1 + 512 ≤ col b.1 ∨ col b.1 + 512 ≤ col a.1) := by decide +kernel

theorem pSet_disj (p p' : Fin 6) (h : p ≠ p') : Disjoint (pSet p) (pSet p') :=
  Finset.disjoint_left.mpr fun i hi hi' => by
    rw [mem_oSet] at hi hi'
    rcases part_sep p p' h with (h | h) | (h | h) <;> omega
theorem bSet_disj (a b : Fin 6 × Fin 3) (h : a ≠ b) : Disjoint (bSet a) (bSet b) :=
  Finset.disjoint_left.mpr fun i hi hi' => by
    rw [mem_rSet] at hi hi'
    rcases step_sep a b h with (h | h) | (h | h) <;> omega

theorem col_half (q : ℕ) (hq : q < 1024) : q / 512 < 2 := by omega

theorem pSet_cover : Finset.univ.biUnion pSet = (Finset.univ : Finset S1024x1024.Idx) :=
  Finset.eq_univ_iff_forall.mpr fun i => by
    obtain ⟨p, h, hc⟩ := part_of_row (i 0) ⟨(i 1).val / 512, col_half _ (i 1).isLt⟩
    refine Finset.mem_biUnion.mpr ⟨p, Finset.mem_univ _, mem_oSet.mpr ⟨h, ?_⟩⟩
    rw [hc]; show 512 * ((i 1).val / 512) ≤ _ ∧ _ < 512 * ((i 1).val / 512) + 512; omega
theorem bSet_cover : Finset.univ.biUnion bSet = (Finset.univ : Finset S896x1024.Idx) :=
  Finset.eq_univ_iff_forall.mpr fun i => by
    obtain ⟨p, k, h, hc⟩ := step_of_row (i 0) ⟨(i 1).val / 512, col_half _ (i 1).isLt⟩
    refine Finset.mem_biUnion.mpr ⟨(p, k), Finset.mem_univ _, mem_rSet.mpr ⟨h, ?_⟩⟩
    show col p ≤ _ ∧ _ < col p + 512
    rw [hc]; show 512 * ((i 1).val / 512) ≤ _ ∧ _ < 512 * ((i 1).val / 512) + 512; omega

/-- The part an entry of the result belongs to. -/
def partOf (i : S1024x1024.Idx) : Fin 6 := ⟨((i 0).val / 384 + 3 * ((i 1).val / 512)) % 6, Nat.mod_lt _ (by decide)⟩

theorem partOf_row : ∀ (p : Fin 6) (r : Fin 1024) (h : Fin 2), base p ≤ r.val ∧ r.val < base p + rows p → col p = 512 * h.val → (r.val / 384 + 3 * h.val) % 6 = p.val := by
  decide +kernel
theorem partOf_mem {p : Fin 6} {i : S1024x1024.Idx} (hi : i ∈ pSet p) : partOf i = p := by
  rw [mem_oSet] at hi
  refine Fin.ext (partOf_row p (i 0) ⟨(i 1).val / 512, col_half _ (i 1).isLt⟩ hi.1 ?_)
  have h : col p = 0 ∨ col p = 512 := by unfold col; split; exact Or.inl rfl; exact Or.inr rfl
  show col p = 512 * ((i 1).val / 512)
  omega

/-- The contents the result buffer ends with. -/
def outs (X : Dev nD → OB F) : OB F := fun i => res X (partOf i) i

section Ends
variable (X : Dev nD → OB F) (c : Dev nD)

/-- The result buffer before the run: the six parts, nothing computed. -/
theorem out_open (f : OB F) : (((c : Thread nD τ).loc cc0_stg2_0) ↦{fullShare} f : sProp 𝕄) ⊢ bigSep Finset.univ fun p : Fin 6 => held X p c 0 := by
  have h : (((c : Thread nD τ).loc cc0_stg2_0) ↦{fullShare} f : sProp 𝕄) = bigSep Finset.univ fun p : Fin 6 => oPts c (base p) (rows p) (col p) f := by
    have h' := pointsTo_biUnion (ℓ := (c : Thread nD τ).loc cc0_stg2_0) (q := fullShare) (f := f) (Ix := Unit) (Name := ℕ) (U := UU) (Lvl := ℕ)
      (Finset.univ : Finset (Fin 6)) pSet fun p _ p' _ h => pSet_disj p p' h
    exact (congrArg (fun S => (((c : Thread nD τ).loc cc0_stg2_0) ↦[S]{fullShare} f : sProp 𝕄)) pSet_cover).symm.trans h'
  have hp : ∀ p : Fin 6, oPts c (base p) (rows p) (col p) f ⊢ held X p c 0 := fun p => by
    rw [show held X p c 0 = someO c (base p) (rows p) (col p) from if_pos rfl]
    unfold someO
    iintro H
    iexists f; iexact H
  exact (Entails.of_eq h).trans (bigSep_mono fun p _ => hp p)

/-- The result buffer after the run. -/
theorem out_close : bigSep Finset.univ (fun p : Fin 6 => held X p c 25) ⊢ (((c : Thread nD τ).loc cc0_stg2_0) ↦{fullShare} outs X : sProp 𝕄) := by
  have hp : ∀ p : Fin 6, held X p c 25 = oPts c (base p) (rows p) (col p) (outs X) := fun p => by
    rw [show held X p c 25 = oPts c (base p) (sz p 0) (col p) (res X p) from rfl, sz_zero]
    unfold oPts
    refine pointsTo_congr fun i hi => ?_
    show _ = res X (partOf i) i
    rw [partOf_mem hi]
  have h' := pointsTo_biUnion (ℓ := (c : Thread nD τ).loc cc0_stg2_0) (q := fullShare) (f := outs X) (Ix := Unit) (Name := ℕ) (U := UU) (Lvl := ℕ)
    (Finset.univ : Finset (Fin 6)) pSet fun p _ p' _ h => pSet_disj p p' h
  have h : bigSep Finset.univ (fun p : Fin 6 => held X p c 25) = (((c : Thread nD τ).loc cc0_stg2_0) ↦{fullShare} outs X : sProp 𝕄) :=
    (bigSep_congr fun p _ => hp p).trans (h'.symm.trans (congrArg (fun S => (((c : Thread nD τ).loc cc0_stg2_0) ↦[S]{fullShare} outs X : sProp 𝕄)) pSet_cover))
  exact Entails.of_eq h

/-- The landing buffer before the run: a device's own landing blocks, as the signals hand them out. -/
theorem land_open (f : RB F) : (((c : Thread nD τ).loc cc0_scratch1) ↦{fullShare} f : sProp 𝕄) ⊢ bigSep Finset.univ fun m : Fin 3 => barPay (peer m c) m := by
  have h' := pointsTo_biUnion (ℓ := (c : Thread nD τ).loc cc0_scratch1) (q := fullShare) (f := f) (Ix := Unit) (Name := ℕ) (U := UU) (Lvl := ℕ)
    (Finset.univ : Finset (Fin 6 × Fin 3)) bSet fun a _ b _ h => bSet_disj a b h
  have h : (((c : Thread nD τ).loc cc0_scratch1) ↦{fullShare} f : sProp 𝕄)
      = bigSep Finset.univ fun pk : Fin 6 × Fin 3 => rPts c (boff pk.1 pk.2.val) (sz pk.1 (pk.2.val + 1)) (col pk.1) f :=
    (congrArg (fun S => (((c : Thread nD τ).loc cc0_scratch1) ↦[S]{fullShare} f : sProp 𝕄)) bSet_cover).symm.trans h'
  have hp : ∀ pk : Fin 6 × Fin 3, rPts c (boff pk.1 pk.2.val) (sz pk.1 (pk.2.val + 1)) (col pk.1) f
      ⊢ iprop(∃ f, rPts (F := F) c (boff pk.1 pk.2.val) (sz pk.1 (pk.2.val + 1)) (col pk.1) f) := fun pk => by
    iintro H
    iexists f; iexact H
  have hb : (fun m : Fin 3 => barPay (F := F) (peer m c) m)
      = fun m => bigSep Finset.univ fun p : Fin 6 => iprop(∃ f, rPts c (boff p (tm p m)) (sz p (tm p m + 1)) (col p) f) := by
    funext m
    unfold barPay
    rw [peer_peer]
  rw [hb, bigSep_univ_comm]
  refine ((Entails.of_eq h).trans (bigSep_mono fun pk _ => hp pk)).trans (Entails.of_eq ?_)
  rw [bigSep_univ_prod]
  refine bigSep_congr fun p _ => ?_
  exact bigSep_univ_equiv (tmEquiv p) (Φ := fun k : Fin 3 => (iprop(∃ f, rPts (F := F) c (boff p k.val) (sz p (k.val + 1)) (col p) f)))

/-- The landing buffer after the run. -/
theorem land_close : bigSep Finset.univ (fun p : Fin 6 => bigSep Finset.univ fun k : Fin 3 => landedPts X p k.val c)
    ⊢ (iprop(∃ f : RB F, ((c : Thread nD τ).loc cc0_scratch1) ↦{fullShare} f) : sProp 𝕄) := by
  have hp : ∀ pk : Fin 6 × Fin 3, landedPts X pk.1 pk.2.val c ⊢ iprop(∃ f : RB F, ((c : Thread nD τ).loc cc0_scratch1) ↦[bSet pk]{fullShare} f) := fun pk => by
    unfold landedPts rPts
    iintro ⟨%f, %hf, H⟩
    iexists f; iexact H
  have hj : ∀ fs : Fin 6 × Fin 3 → RB F, bigSep Finset.univ (fun pk => (((c : Thread nD τ).loc cc0_scratch1) ↦[bSet pk]{fullShare} fs pk : sProp 𝕄))
      ⊢ iprop(∃ f : RB F, ((c : Thread nD τ).loc cc0_scratch1) ↦{fullShare} f) := fun fs => by
    have h := pointsTo_biUnion_join (ℓ := (c : Thread nD τ).loc cc0_scratch1) (q := fullShare) (Ix := Unit) (Name := ℕ) (U := UU) (Lvl := ℕ)
      (Finset.univ : Finset (Fin 6 × Fin 3)) bSet fs (fs (0, 0)) fun a _ b _ h => bSet_disj a b h
    rw [bSet_cover] at h
    iintro H
    ihave H := h $$ H
    icases H with ⟨%g, -, H⟩
    iexists g; iexact H
  have hy : iprop(∃ fs : Fin 6 × Fin 3 → RB F, bigSep Finset.univ (fun pk => (((c : Thread nD τ).loc cc0_scratch1) ↦[bSet pk]{fullShare} fs pk : sProp 𝕄)))
      ⊢ iprop(∃ f : RB F, ((c : Thread nD τ).loc cc0_scratch1) ↦{fullShare} f) := by
    iintro ⟨%fs, H⟩
    iapply (hj fs); iexact H
  haveI : Nonempty (RB F) := ⟨fun _ => FloatOps.ofBits .bf16 0x0000#16⟩
  have hx := BI.bigSep_exists_pi Finset.univ (fun (pk : Fin 6 × Fin 3) (f : RB F) => (((c : Thread nD τ).loc cc0_scratch1) ↦[bSet pk]{fullShare} f : sProp 𝕄))
  rw [← bigSep_univ_prod (fun pk : Fin 6 × Fin 3 => landedPts X pk.1 pk.2.val c)]
  refine ((bigSep_mono fun pk _ => hp pk).trans hx).trans hy

end Ends

end Cert.AllReduce

end
-- ==== Proof.Fund.lean ====
/-
The ghost state at the launch: minted once for all devices, dealt to the ones that use it; and the credit a device starts with.
-/
module

public import proofs.«01_k».proof.Proof.Entry

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells in order -/

/-- The kernel's own semaphores: the senders' and the receivers'. -/
def jEquiv : (Fin 6 × Fin 6) ⊕ (Fin 6 × Fin 6) ≃ Fin 72 :=
  Equiv.ofBijective (Sum.elim (fun a => sndJ a.1 a.2) fun a => rcvJ a.1 a.2) <| by
    refine (Fintype.bijective_iff_injective_and_card _).mpr ⟨?_, by simp⟩
    rintro (⟨⟨p, hp⟩, ⟨k, hk⟩⟩ | ⟨⟨p, hp⟩, ⟨k, hk⟩⟩) (⟨⟨p', hp'⟩, ⟨k', hk'⟩⟩ | ⟨⟨p', hp'⟩, ⟨k', hk'⟩⟩) h <;> have h := congrArg Fin.val h <;>
      simp only [Sum.elim_inl, Sum.elim_inr, sndJ, rcvJ] at h
    · have h1 : p = p' := by omega
      have h2 : k = k' := by omega
      subst h1 h2; rfl
    · omega
    · omega
    · have h1 : p = p' := by omega
      have h2 : k = k' := by omega
      subst h1 h2; rfl

omit [FloatOps F] in
theorem jsplit (Φ : Fin 72 → sProp (MT nD τ sig Unit (Elt F) ℕ UU ℕ)) : bigSep Finset.univ Φ
    = iprop(bigSep Finset.univ (fun p : Fin 6 => bigSep Finset.univ fun k : Fin 6 => Φ (sndJ p k))
      ∗ bigSep Finset.univ (fun p : Fin 6 => bigSep Finset.univ fun k : Fin 6 => Φ (rcvJ p k))) := by
  rw [bigSep_univ_equiv jEquiv Φ, BI.bigSep_univ_sum, bigSep_univ_prod, bigSep_univ_prod]; rfl
omit [FloatOps F] in
theorem osplit (Φ : Option (Fin 72) → sProp (MT nD τ sig Unit (Elt F) ℕ UU ℕ)) : bigSep Finset.univ Φ = iprop(Φ none ∗ bigSep Finset.univ fun j => Φ (some j)) := by
  rw [bigSep_univ_equiv ((Equiv.optionEquivSumPUnit.{0} (Fin 72)).trans (Equiv.sumComm _ _)).symm Φ, BI.bigSep_univ_sum,
    bigSep_univ_eq_bigSepL [PUnit.unit] (by decide) (by decide)]; rfl

theorem osem_injective : Function.Injective osem := fun j j' h => by
  have h := congrArg (fun s : SemLoc sig => match s with | .dma q => q.val | .reg _ => 0) h
  exact Fin.ext (by dsimp only at h; omega)
theorem kcell_injective : Function.Injective (kcell : Dev nD × Option (Fin 72) → GSem nD τ sig) := by
  rintro ⟨c, k⟩ ⟨c', k'⟩ h
  have h1 : c = c' := congrArg (fun g : GSem nD τ sig => g.1.1) h
  have h2 : csem k = csem k' := congrArg Prod.snd h
  subst h1
  cases k with
  | none => cases k' with
    | none => rfl
    | some j => exact absurd h2 (by show SemLoc.reg barS ≠ SemLoc.dma _; intro h; cases h)
  | some j => cases k' with
    | none => exact absurd h2 (by show SemLoc.dma _ ≠ SemLoc.reg barS; intro h; cases h)
    | some j' => rw [osem_injective h2]

def ringCells : Finset (GSem nD τ sig) := Finset.univ.map ⟨kcell, kcell_injective⟩

/-- The duties of a device's cells: the barrier's three, and one for each of the kernel's own semaphores. -/
abbrev tokOf (cj : Dev nD × (Fin 3 ⊕ Fin 72)) : GSem nD τ sig × ℕ × Fin 3 := match cj.2 with
  | .inl m => (barCell cj.1, 0, m)
  | .inr j => (kcell (cj.1, some j), 0, 0)
theorem tokOf_injective : Function.Injective tokOf := by
  rintro ⟨c, j | j⟩ ⟨c', j' | j'⟩ h
  · have h1 : c = c' := congrArg (fun g : GSem nD τ sig × ℕ × Fin 3 => g.1.1.1) h
    have h2 : j = j' := congrArg (fun g : GSem nD τ sig × ℕ × Fin 3 => g.2.2) h
    rw [h1, h2]
  · have h := kcell_injective (a₁ := (c, none)) (congrArg Prod.fst h); cases h
  · have h := kcell_injective (a₂ := (c', none)) (congrArg Prod.fst h); cases h
  · have h := kcell_injective (congrArg Prod.fst h)
    have h1 : c = c' := congrArg Prod.fst h
    have h2 : j = j' := Option.some.inj (congrArg Prod.snd h)
    rw [h1, h2]
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-! ## Minting and dealing -/

section Fund
variable (X : Dev nD → OB F)

/-- The duty tokens of a device's own cells. -/
def toks (c : Dev nD) : sProp 𝕄 :=
  iprop(bigSep Finset.univ (fun m : Fin 3 => dutyTok ER (barCell c) 0 m) ∗ bigSep Finset.univ (fun j : Fin 72 => dutyTok ER (kcell (c, some j)) 0 0))

/-- What the launch deals device `c`. -/
def G (c : Dev nD) : sProp 𝕄 :=
  iprop((bigSep Finset.univ fun k => roundState ER (Rd X) (kcell (c, k)) 0)
    ∗ (bigSep Finset.univ fun k => iprop(atPos ER (kcell (c, k)) 0 ∅ 0 ∗ reached ER (kcell (c, k)) 0)) ∗ toks c)

/-- The tokens of the duties device `c` performs. -/
def payToks (c : Dev nD) : sProp 𝕄 :=
  iprop(bigSep Finset.univ (fun m : Fin 3 => dutyTok ER (barCell (peer m c)) 0 m)
    ∗ bigSep Finset.univ (fun p : Fin 6 => bigSep Finset.univ fun k : Fin 6 => dutyTok ER (sndCell p k c) 0 0)
    ∗ bigSep Finset.univ (fun p : Fin 6 => bigSep Finset.univ fun k : Fin 6 => dutyTok ER (rcvCell p k (pr p (lvl k.val) c)) 0 0))

/-- What device `c` keeps to itself: its positions and those tokens. -/
def linear (c : Dev nD) : sProp 𝕄 := iprop((bigSep Finset.univ fun k => atPos ER (kcell (c, k)) 0 ∅ 0) ∗ payToks c)

def G' (c : Dev nD) : sProp 𝕄 := iprop(∃ K, recs X K ∗ linear c)

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum]; rfl
  iintro HX
  imod (Rounds.fund ER (Rd X) ringCells ringToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  have hJ : (Pipeline.ownSems0 (Ix := Unit) (Name := ℕ) (U := UU) (Lvl := ℕ) (Val := Elt F) (τ := τ) osem c : sProp 𝕄)
      = bigSep Finset.univ fun j => semVal (kcell (c, some j)) 0 := rfl
  rw [unscopedSems0_eq, osplit, hJ]
  iintro ⟨HJ, HB⟩
  isplitl [HB]; · iexact HB
  iexact HJ

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem toks_around : (bigSep Finset.univ fun c : Dev nD => (toks c : sProp 𝕄)) ⊢ bigSep Finset.univ fun c : Dev nD => payToks c := by
  have hb : (bigSep Finset.univ fun c : Dev nD => bigSep Finset.univ fun m : Fin 3 => (dutyTok ER (barCell c) 0 m : sProp 𝕄))
      = bigSep Finset.univ fun c : Dev nD => bigSep Finset.univ fun m : Fin 3 => dutyTok ER (barCell (peer m c)) 0 m := by
    rw [bigSep_univ_comm, bigSep_univ_comm (fun c : Dev nD => fun m : Fin 3 => (dutyTok ER (barCell (peer m c)) 0 m : sProp 𝕄))]
    exact bigSep_congr fun m _ => bigSep_univ_equiv (swap m) (fun c : Dev nD => (dutyTok ER (barCell c) 0 m : sProp 𝕄))
  have hr : (bigSep Finset.univ fun c : Dev nD => bigSep Finset.univ fun p : Fin 6 => bigSep Finset.univ fun k : Fin 6 => (dutyTok ER (kcell (c, some (rcvJ p k))) 0 0 : sProp 𝕄))
      = bigSep Finset.univ fun c : Dev nD => bigSep Finset.univ fun p : Fin 6 => bigSep Finset.univ fun k : Fin 6 => dutyTok ER (rcvCell p k (pr p (lvl k.val) c)) 0 0 := by
    rw [bigSep_univ_comm, bigSep_univ_comm (fun c : Dev nD => fun p : Fin 6 => bigSep Finset.univ fun k : Fin 6 => (dutyTok ER (rcvCell p k (pr p (lvl k.val) c)) 0 0 : sProp 𝕄))]
    refine bigSep_congr fun p _ => ?_
    rw [bigSep_univ_comm, bigSep_univ_comm (fun c : Dev nD => fun k : Fin 6 => (dutyTok ER (rcvCell p k (pr p (lvl k.val) c)) 0 0 : sProp 𝕄))]
    refine bigSep_congr fun k _ => ?_
    rw [bigSep_congr (s := Finset.univ) fun (c : Dev nD) _ => congrArg (fun g => (dutyTok ER g 0 0 : sProp 𝕄)) (kcell_rcv p k c)]
    exact bigSep_univ_equiv (swap (mk p (lvl k.val))) (fun c : Dev nD => (dutyTok ER (rcvCell p k c) 0 0 : sProp 𝕄))
  unfold toks payToks
  rw [bigSep_sep', bigSep_sep', bigSep_sep', hb, ← hr, ← bigSep_sep' Finset.univ (fun c : Dev nD => bigSep Finset.univ fun p : Fin 6 => bigSep Finset.univ fun k : Fin 6 => (dutyTok ER (sndCell p k c) 0 0 : sProp 𝕄))]
  exact Entails.of_eq (congrArg _ (bigSep_congr fun c _ => jsplit _))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  have hg : ∀ (K : Dev nD × Option (Fin 72) → ℕ) (c : Dev nD), iprop(recs X K ∗ linear c) ⊢ G' X c := fun K c => by
    unfold G'
    iintro H
    iexists K; iexact H
  rw [bigSep_sep', bigSep_sep', ← bigSep_univ_prod (fun ck : Dev nD × Option (Fin 72) => iprop(∃ κ : ℕ, cellInv ER (Rd X) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Fin 72) => (reached ER (kcell ck) 0 : sProp 𝕄))]
  iintro ⟨HI, ⟨Hat, #HR⟩, Htok⟩
  ihave HK := (BI.bigSep_exists_pi Finset.univ (fun (ck : Dev nD × Option (Fin 72)) (κ : ℕ) => (cellInv ER (Rd X) κ (kcell ck) : sProp 𝕄))) $$ HI
  icases HK with ⟨%K, #HI⟩
  ihave Htk := (toks_around (F := F)) $$ Htok
  iapply (bigSep_with_persistent (R := recs X K) fun c _ => hg K c)
  isplitr
  · unfold recs; isplitl; · iexact HI
    iexact HR
  · unfold linear
    iapply (Entails.of_eq (bigSep_sep' Finset.univ (fun c : Dev nD => bigSep Finset.univ fun k => (atPos ER (kcell (c, k)) 0 ∅ 0 : sProp 𝕄)) payToks).symm)
    isplitl [Hat]; · iexact Hat
    iexact Htk

/-- The step all devices take together. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Fund

/-! ## What a device owes at the start, and the credit it gets -/

/-- Every transfer and the three signals. -/
def O₀ (c : Dev nD) : CellTallies nD τ sig Unit := owed (fun _ => 0) c + barOwed c 0

theorem bar_eq_iff {a b : Dev nD} : Iff (barCell a = barCell b) (a = b) :=
  ⟨fun h => congrArg (fun g : GSem nD τ sig => g.1.1) h, fun h => h ▸ rfl⟩
theorem rcv_eq_iff {p k p' k' : Fin 6} {a b : Dev nD} : Iff (rcvCell p k a = rcvCell p' k' b) ((p = p' ∧ k = k') ∧ a = b) := by
  refine ⟨fun h => ?_, fun h => by obtain ⟨⟨rfl, rfl⟩, rfl⟩ := h; rfl⟩
  have h1 : a = b := congrArg (fun g : GSem nD τ sig => g.1.1) h
  have h2 : rcvS p k = rcvS p' k' := SemLoc.dma.inj (congrArg Prod.snd h)
  exact ⟨⟨by rw [← pOf_rcv p k, h2, pOf_rcv], by rw [← kOf_rcv p k, h2, kOf_rcv]⟩, h1⟩
theorem rcv_ne_bar {p k : Fin 6} {a b : Dev nD} : rcvCell p k a ≠ barCell b := fun h => by
  have h := congrArg Prod.snd h; cases h

theorem barOwed_zero (c : Dev nD) : barOwed c 0 = tallyAt (barCell (peer 2 c)) () 1 + tallyAt (barCell (peer 1 c)) () 1 + tallyAt (barCell (peer 0 c)) () 1 := rfl
theorem barOwed_rcv (d c : Dev nD) (p k : Fin 6) : barOwed d 0 (rcvCell p k c) () = 0 := by
  rw [barOwed_zero]
  rw [Pi.add_apply, Finsupp.add_apply, Pi.add_apply, Finsupp.add_apply, tallyAt_ne_cell rcv_ne_bar, tallyAt_ne_cell rcv_ne_bar, tallyAt_ne_cell rcv_ne_bar]; rfl
theorem owed_bar (d c : Dev nD) : owed (fun _ => 0) d (barCell c) () = 0 := by
  by_contra h
  obtain ⟨p, k, -, h⟩ := owed_pos (Nat.pos_of_ne_zero h)
  exact rcv_ne_bar h.symm
theorem owed_rcv (d c : Dev nD) (p k : Fin 6) : owed (fun _ => 0) d (rcvCell p k c) () = if d = pr p (lvl k.val) c then crd (nr p k.val) else 0 := by
  have ht : ∀ pk : Fin 6 × Fin 6, owedAt pk.1 pk.2 d 0 (rcvCell p k c) () = if pk = (p, k) then (if d = pr p (lvl k.val) c then crd (nr p k.val) else 0) else 0 := by
    rintro ⟨p', k'⟩
    unfold owedAt
    rw [if_pos (Nat.zero_le _), tallyAt_apply]
    by_cases h : (p', k') = (p, k)
    · cases h
      rw [if_pos rfl]
      by_cases hd : d = pr p (lvl k.val) c
      · subst hd
        rw [if_pos rfl, if_pos ⟨rcv_eq_iff.mpr ⟨⟨rfl, rfl⟩, (peer_peer _ _).symm⟩, rfl⟩]
      · rw [if_neg hd, if_neg]
        rintro ⟨h, -⟩
        refine hd ?_
        rw [(rcv_eq_iff.mp h).2]
        exact (peer_peer _ _).symm
    · rw [if_neg h, if_neg]
      rintro ⟨h', -⟩
      exact h (by rw [(rcv_eq_iff.mp h').1.1, (rcv_eq_iff.mp h').1.2])
  unfold owed
  rw [Finset.sum_apply, Finsupp.finset_sum_apply, Finset.sum_congr rfl fun pk _ => ht pk, Finset.sum_ite_eq' Finset.univ (p, k), if_pos (Finset.mem_univ _)]
theorem barOwed_bar (d c : Dev nD) : barOwed d 0 (barCell c) () = (if d = peer 2 c then 1 else 0) + (if d = peer 1 c then 1 else 0) + (if d = peer 0 c then 1 else 0) := by
  have h : ∀ m : Fin 3, (tallyAt (barCell (peer m d)) () 1 : CellTallies nD τ sig Unit) (barCell c) () = if d = peer m c then 1 else 0 := fun m => by
    rw [tallyAt_apply]
    by_cases h : d = peer m c
    · subst h; rw [if_pos rfl, if_pos ⟨bar_eq_iff.mpr (peer_peer _ _).symm, rfl⟩]
    · rw [if_neg h, if_neg]
      rintro ⟨h', -⟩
      refine h ?_
      rw [bar_eq_iff.mp h', peer_peer]
  rw [barOwed_zero]
  rw [Pi.add_apply, Finsupp.add_apply, Pi.add_apply, Finsupp.add_apply, h, h, h]

theorem launch_bar (c : Dev nD) : tallyOn (barCell c) (launchCredit (Pipeline.owing O₀) 0 (barCell c)) = (tallyAt (barCell c) () 3 : CellTallies nD τ sig Unit) := by
  unfold tallyAt; refine congrArg _ (Finsupp.ext fun u => ?_); cases u
  have h : ∀ d, O₀ d (barCell c) () = (if d = peer 2 c then 1 else 0) + (if d = peer 1 c then 1 else 0) + (if d = peer 0 c then 1 else 0) := fun d => by
    unfold O₀
    rw [Pi.add_apply, Finsupp.add_apply, owed_bar, barOwed_bar, Nat.zero_add]
  rw [Pipeline.launchCredit_owing, Finsupp.single_eq_same, Finset.sum_congr rfl fun d _ => h d, Finset.sum_add_distrib, Finset.sum_add_distrib]
  simp only [Finset.sum_ite_eq', Finset.mem_univ, if_true]
theorem launch_rcv (c : Dev nD) (p k : Fin 6) :
    tallyOn (rcvCell p k c) (launchCredit (Pipeline.owing O₀) 0 (rcvCell p k c)) = (tallyAt (rcvCell p k c) () (crd (nr p k.val)) : CellTallies nD τ sig Unit) := by
  unfold tallyAt; refine congrArg _ (Finsupp.ext fun u => ?_); cases u
  have h : ∀ d, O₀ d (rcvCell p k c) () = if d = pr p (lvl k.val) c then crd (nr p k.val) else 0 := fun d => by
    unfold O₀
    rw [Pi.add_apply, Finsupp.add_apply, owed_rcv, barOwed_rcv, Nat.add_zero]
  rw [Pipeline.launchCredit_owing, Finsupp.single_eq_same, Finset.sum_congr rfl fun d _ => h d]
  simp only [Finset.sum_ite_eq', Finset.mem_univ, if_true]

theorem rcvS_injective : Function.Injective (fun pk : Fin 6 × Fin 6 => (SemLoc.dma (rcvS pk.1 pk.2) : SemLoc sig)) := fun a b h => by
  have h : rcvS a.1 a.2 = rcvS b.1 b.2 := SemLoc.dma.inj h
  exact Prod.ext (by rw [← pOf_rcv a.1 a.2, h, pOf_rcv]) (by rw [← kOf_rcv a.1 a.2, h, kOf_rcv])

theorem creds (c : Dev nD) : (Pipeline.launchCred O₀ c : sProp 𝕄)
    ⊢ iprop(cred (tallyAt (barCell c) () 3) ∗ bigSep Finset.univ (fun p : Fin 6 => bigSep Finset.univ fun k : Fin 6 => cred (tallyAt (rcvCell p k c) () (crd (nr p k.val))))) := by
  unfold Pipeline.launchCred
  rw [bigSep_univ_at _ (SemLoc.reg barS), launch_bar]
  have hs : Finset.univ.map ⟨_, rcvS_injective⟩ ⊆ Finset.univ.erase (SemLoc.reg barS : SemLoc sig) := fun s hs => by
    obtain ⟨pk, -, rfl⟩ := Finset.mem_map.mp hs
    exact Finset.mem_erase.mpr ⟨fun h => (by cases h), Finset.mem_univ _⟩
  have he : bigSep (Finset.univ.map ⟨_, rcvS_injective⟩) (fun sm : SemLoc sig => (cred (tallyOn ((c : Thread nD τ), sm) (launchCredit (Pipeline.owing O₀) 0 ((c : Thread nD τ), sm))) : sProp 𝕄))
      = bigSep Finset.univ fun p : Fin 6 => bigSep Finset.univ fun k : Fin 6 => cred (tallyAt (rcvCell p k c) () (crd (nr p k.val))) := by
    rw [bigSep_map, bigSep_univ_prod]
    exact bigSep_congr fun p _ => bigSep_congr fun k _ => congrArg cred (launch_rcv c p k)
  rw [← he]
  exact sep_mono_right (bigSep_subset hs)

/-- Waiting on a staging semaphore is fine at any time. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hpos : ∀ g u, 0 < O g u → u ∈ L g ∧ 0 < lv g u := fun g u hg => by
    rcases hO with rfl | rfl
    · unfold O₀ at hg
      rw [Pi.add_apply, Finsupp.add_apply] at hg
      rcases Nat.eq_zero_or_pos (owed (fun _ => 0) c g u) with h0 | h0
      · rw [h0, Nat.zero_add] at hg
        have hb : ∀ a : Dev nD, g = barCell a → u ∈ L g ∧ 0 < lv g u := fun a h => by
          subst h; exact ⟨Finset.mem_singleton_self _, Nat.one_pos⟩
        rw [barOwed_zero, Pi.add_apply, Finsupp.add_apply, Pi.add_apply, Finsupp.add_apply, tallyAt_apply, tallyAt_apply, tallyAt_apply] at hg
        by_cases h2 : g = barCell (peer 2 c)
        · exact hb _ h2
        by_cases h1 : g = barCell (peer 1 c)
        · exact hb _ h1
        by_cases h0 : g = barCell (peer 0 c)
        · exact hb _ h0
        rw [if_neg fun h => h2 h.1, if_neg fun h => h1 h.1, if_neg fun h => h0 h.1] at hg
        exact absurd hg (Nat.lt_irrefl 0)
      · obtain ⟨p, k, -, rfl⟩ := owed_pos h0
        exact ⟨Finset.mem_singleton_self _, by rw [lv_rcv]; omega⟩
    · exact absurd hg (Nat.lt_irrefl 0)
  exact MayOwe.of_cut (L := L) (lev := lv) 0 (fun q hq => by rw [Finset.mem_singleton.mp hq, L_tc]; exact Finset.mem_singleton_self _)
    (fun g u hg => (hpos g u hg).1)
    (fun r hr => by
      rw [Finset.mem_singleton.mp hr]
      show (if 39 ≤ q.val then 2 + (kOf q).val else 0) ≤ 0
      rw [if_neg (by omega)])
    (fun g u hg => (hpos g u hg).2)

end Cert.AllReduce

end
-- ==== Proof.Around.lean ====
/-
The state the body starts from, and the state it ends in, in terms of the whole buffers and the semaphores.
-/
module

public import proofs.«01_k».proof.Proof.Ends
public import proofs.«01_k».proof.Proof.Fund

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The bands of a device's product -/

/-- A device's product of its two blocks, in the three bands of rows it is computed in. -/
def prod (a : Vec F S1024x512 .bf16) (b : Vec F S512x1024 .bf16) : OB F := fun i =>
  if h0 : (i 0).val < 384 then
    k0_pay3 (k0_pay2 (rowsA ![0, 0] S384x512.size inb_S1024x512_S384x512_0_0 a)) b (ValueIdx.ix2 (⟨(i 0).val, h0⟩ : Fin 384) (i 1 : Fin 1024))
  else if h1 : (i 0).val < 768 then
    k0_pay4 (rowsA ![384, 0] S384x512.size inb_S1024x512_S384x512_384_0 a) b (ValueIdx.ix2 (⟨(i 0).val - 384, by omega⟩ : Fin 384) (i 1 : Fin 1024))
  else
    k0_pay5 (rowsA ![768, 0] S256x512.size inb_S1024x512_S256x512_768_0 a) b
      (ValueIdx.ix2 (⟨(i 0).val - 768, by have h : (i 0).val < 1024 := (i 0).isLt; omega⟩ : Fin 256) (i 1 : Fin 1024))

theorem ix2_of_val {n m : ℕ} (j : (⟨2, ![n, m]⟩ : Shape).Idx) (x : Fin n) (y : Fin m) (hx : (j 0).val = x.val) (hy : (j 1).val = y.val) : j = ValueIdx.ix2 x y :=
  funext fun a => match a with
    | ⟨0, _⟩ => Fin.ext hx
    | ⟨1, _⟩ => Fin.ext hy

theorem ixO_row (x y : ℕ) (h : x < 1024) : ((ixO x y) 0).val = x := Nat.mod_eq_of_lt h
theorem ixO_col (x y : ℕ) (h : y < 1024) : ((ixO x y) 1).val = y := Nat.mod_eq_of_lt h

theorem bands_prod (a : Vec F S1024x512 .bf16) (b : Vec F S512x1024 .bf16) : Bands (prod a b) a b where
  b0 h j := by
    have h0 : (j 0).val < 384 := (j 0).isLt
    have h1 : (j 1).val < 1024 := (j 1).isLt
    have hr := ixO_row (0 + (j 0).val) (j 1).val (by omega)
    have hc := ixO_col (0 + (j 0).val) (j 1).val h1
    unfold prod
    rw [dif_pos (by omega)]
    exact congrArg _ (ix2_of_val j _ _ ((hr.trans (Nat.zero_add _)).symm) hc.symm)
  b1 h j := by
    have h0 : (j 0).val < 384 := (j 0).isLt
    have h1 : (j 1).val < 1024 := (j 1).isLt
    have hr := ixO_row (384 + (j 0).val) (j 1).val (by omega)
    have hc := ixO_col (384 + (j 0).val) (j 1).val h1
    unfold prod
    rw [dif_neg (by omega), dif_pos (by omega)]
    exact congrArg _ (ix2_of_val j _ _ (by show _ = ((ixO _ _) 0).val - 384; omega) hc.symm)
  b2 h j := by
    have h0 : (j 0).val < 256 := (j 0).isLt
    have h1 : (j 1).val < 1024 := (j 1).isLt
    have hr := ixO_row (768 + (j 0).val) (j 1).val (by omega)
    have hc := ixO_col (768 + (j 0).val) (j 1).val h1
    unfold prod
    rw [dif_neg (by omega), dif_neg (by omega)]
    exact congrArg _ (ix2_of_val j _ _ (by show _ = ((ixO _ _) 0).val - 768; omega) hc.symm)

/-! ## Before and after -/

section
variable (X : Dev nD → OB F) (K : Dev nD × Option (Fin 72) → ℕ) (c : Dev nD)

theorem tok0_all : bigSep Finset.univ (fun p : Fin 6 => bigSep Finset.univ fun k : Fin 6 => (tok0 p k c : sProp 𝕄))
    = iprop(bigSep Finset.univ (fun p : Fin 6 => bigSep Finset.univ fun k : Fin 6 => dutyTok ER (sndCell p k c) 0 0)
      ∗ bigSep Finset.univ (fun p : Fin 6 => bigSep Finset.univ fun k : Fin 6 => dutyTok ER (rcvCell p k (pr p (lvl k.val) c)) 0 0)
      ∗ bigSep Finset.univ (fun p : Fin 6 => bigSep Finset.univ fun k : Fin 6 => atPos ER (sndCell p k c) 0 ∅ 0)
      ∗ bigSep Finset.univ (fun p : Fin 6 => bigSep Finset.univ fun k : Fin 6 => atPos ER (rcvCell p k c) 0 ∅ 0)
      ∗ bigSep Finset.univ (fun p : Fin 6 => bigSep Finset.univ fun k : Fin 6 => cred (tallyAt (rcvCell p k c) () (crd (nr p k.val))))) := by
  unfold tok0; simp only [bigSep_sep']

theorem due_all : bigSep Finset.univ (fun m : Fin 3 => (dueAt c m 0 : sProp 𝕄))
    = iprop(bigSep Finset.univ (fun m : Fin 3 => dutyTok ER (barCell (peer m c)) 0 m) ∗ bigSep Finset.univ (fun m : Fin 3 => barPay (peer m c) m)) := by
  rw [← bigSep_sep']
  exact bigSep_congr fun m _ => if_pos (Nat.zero_le _)

theorem pos_all : (bigSep Finset.univ fun k => (atPos ER (kcell (c, k)) 0 ∅ 0 : sProp 𝕄))
    = iprop(atPos ER (barCell c) 0 ∅ 0 ∗ bigSep Finset.univ (fun p : Fin 6 => bigSep Finset.univ fun k : Fin 6 => atPos ER (sndCell p k c) 0 ∅ 0)
      ∗ bigSep Finset.univ (fun p : Fin 6 => bigSep Finset.univ fun k : Fin 6 => atPos ER (rcvCell p k c) 0 ∅ 0)) := by
  have h : (bigSep Finset.univ fun p : Fin 6 => bigSep Finset.univ fun k : Fin 6 => (atPos ER (kcell (c, some (rcvJ p k))) 0 ∅ 0 : sProp 𝕄))
      = bigSep Finset.univ fun p : Fin 6 => bigSep Finset.univ fun k : Fin 6 => atPos ER (rcvCell p k c) 0 ∅ 0 :=
    bigSep_congr fun p _ => bigSep_congr fun k _ => by rw [kcell_rcv]
  rw [osplit, jsplit, h]; rfl

theorem own_all : (Pipeline.ownSems0 (Ix := Unit) (Name := ℕ) (U := UU) (Lvl := ℕ) (Val := Elt F) (τ := τ) osem c : sProp 𝕄)
    = iprop(bigSep Finset.univ (fun p : Fin 6 => bigSep Finset.univ fun k : Fin 6 => semVal (sndCell p k c) 0)
      ∗ bigSep Finset.univ (fun p : Fin 6 => bigSep Finset.univ fun k : Fin 6 => semVal (rcvCell p k c) 0)) := by
  have h : (bigSep Finset.univ fun p : Fin 6 => bigSep Finset.univ fun k : Fin 6 => (semVal (kcell (c, some (rcvJ p k))) 0 : sProp 𝕄))
      = bigSep Finset.univ fun p : Fin 6 => bigSep Finset.univ fun k : Fin 6 => semVal (rcvCell p k c) 0 :=
    bigSep_congr fun p _ => bigSep_congr fun k _ => by rw [kcell_rcv]
  rw [← h]
  exact jsplit fun j => semVal (kcell (c, some j)) 0

/-- The body starts from a device's share of the ghost state, its credit and its buffers. -/
theorem pre_intro (a : Vec F S1024x512 .bf16) (b g : Vec F S512x1024 .bf16) (f : OB F) (r : RB F) (W : Waits sig Unit) :
    iprop((recs X K ∗ linear c) ∗ (cred (tallyAt (barCell c) () 3) ∗ bigSep Finset.univ (fun p : Fin 6 => bigSep Finset.univ fun k : Fin 6 => cred (tallyAt (rcvCell p k c) () (crd (nr p k.val)))))
      ∗ levAts L lv ∗ inp c a b g ∗ (((c : Thread nD τ).loc cc0_scratch1) ↦{fullShare} r) ∗ (((c : Thread nD τ).loc cc0_stg2_0) ↦{fullShare} f)
      ∗ owes (c : Thread nD τ) (O₀ c) W) ⊢ Pre X K (inp c a b g) c (fun _ => 0) 0 := by
  unfold Pre linear payToks
  rw [tok0_all, due_all, pos_all]
  iintro ⟨⟨HR, ⟨HaB, HaS, HaV⟩, HtB, HtS, HtV⟩, ⟨HcB, HcV⟩, HL, HI, Hr, Ho, HO⟩
  isplitl [Ho]; · iapply (out_open X c f); iexact Ho
  isplitl [HtS HtV HaS HaV HcV]
  · isplitl [HtS]; · iexact HtS
    isplitl [HtV]; · iexact HtV
    isplitl [HaS]; · iexact HaS
    isplitl [HaV]; · iexact HaV
    iexact HcV
  isplitl [HtB Hr]
  · isplitl [HtB]; · iexact HtB
    iapply (land_open c r); iexact Hr
  isplitl [HaB]; · iexact HaB
  isplitl [HcB]; · iexact HcB
  isplitl [HO]; · iexists W; unfold O₀; iexact HO
  isplitl [HR]; · iexact HR
  isplitl [HL]; · iexact HL
  iexact HI

theorem last_phase (p : Fin 6) : (![25, 25, 25, 25, 25, 25] : Fin 6 → ℕ) p = 25 := by revert p; decide

theorem owed_last : owed ![25, 25, 25, 25, 25, 25] c = 0 := by
  unfold owed
  refine Finset.sum_eq_zero fun pk _ => ?_
  rw [last_phase]
  exact if_neg (by have := pk.2.isLt; omega)

theorem landed_six (p : Fin 6) : bigSep Finset.univ (fun k : Fin 6 => if k.val < 3 then landedPts X p k.val c else (iprop(emp) : sProp 𝕄))
    ⊢ bigSep Finset.univ fun k : Fin 3 => landedPts X p k.val c := by
  rw [bigSep_univ_eq_bigSepL [0, 1, 2, 3, 4, 5] (by decide) (by decide), bigSep_univ_eq_bigSepL [0, 1, 2] (by decide) (by decide)]
  show iprop(landedPts X p 0 c ∗ landedPts X p 1 c ∗ landedPts X p 2 c ∗ emp ∗ emp ∗ emp) ⊢ iprop(landedPts X p 0 c ∗ landedPts X p 1 c ∗ landedPts X p 2 c)
  iintro ⟨H0, H1, H2, -⟩
  isplitl [H0]; · iexact H0
  isplitl [H1] <;> iassumption

/-- What the parts hold at the end: the semaphores at zero, the landing buffer, the finished result. -/
theorem parts_last : bigSep Finset.univ (fun p => part X p c (![25, 25, 25, 25, 25, 25] p))
    ⊢ iprop(Pipeline.ownSems0 (Ix := Unit) (Name := ℕ) (U := UU) (Lvl := ℕ) (Val := Elt F) (τ := τ) osem c
      ∗ (∃ f : RB F, ((c : Thread nD τ).loc cc0_scratch1) ↦{fullShare} f) ∗ (((c : Thread nD τ).loc cc0_stg2_0) ↦{fullShare} outs X)) := by
  have hs : ∀ p k : Fin 6, stage X p k c 25 = stage3 X p k c := fun p k => by
    have := k.isLt
    unfold stage; rw [if_neg (by omega), if_neg (by omega), if_neg (by omega)]
  have hl : ∀ (p : Fin 6) (t : Fin 3), (lent p t c 25 : sProp 𝕄) = iprop(emp) := fun p t => if_neg (by omega)
  have he : (fun p => part X p c ((![25, 25, 25, 25, 25, 25] : Fin 6 → ℕ) p))
      = fun p => iprop(bigSep Finset.univ (fun k : Fin 6 => iprop(semVal (sndCell p k c) 0 ∗ semVal (rcvCell p k c) 0 ∗ (if k.val < 3 then landedPts X p k.val c else iprop(emp))))
        ∗ bigSep Finset.univ (fun t : Fin 3 => (iprop(emp) : sProp 𝕄)) ∗ held X p c 25) := by
    funext p
    rw [last_phase]
    unfold part
    rw [bigSep_congr fun k _ => hs p k, bigSep_congr fun t _ => hl p t]; rfl
  have hj : bigSep Finset.univ (fun p : Fin 6 => bigSep Finset.univ (fun k : Fin 6 => if k.val < 3 then landedPts X p k.val c else (iprop(emp) : sProp 𝕄)))
      ⊢ bigSep Finset.univ fun p : Fin 6 => bigSep Finset.univ fun k : Fin 3 => landedPts X p k.val c := bigSep_mono fun p _ => landed_six X c p
  rw [he, own_all]
  simp only [bigSep_sep']
  iintro ⟨⟨HS, HV, HL⟩, -, HH⟩
  isplitl [HS HV]
  · isplitl [HS] <;> iassumption
  isplitl [HL]
  · iapply (land_close X c); iapply hj; iexact HL
  · iapply (out_close X c); iexact HH

end

end Cert.AllReduce

end
-- ==== Proof.Launch.lean ====
/-
The run of the program on the eight devices, for any float values.
-/
module

public import proofs.«01_k».proof.Proof.Body
public import proofs.«01_k».proof.Proof.Around
public import proofs.«01_k».proof.Proof.Gen.KernelIdeal.Points
public import Idealize.ShloMosaic.Lib.Pipeline.CollectiveSegs

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-- The two inputs of device `c` as its staging buffers hold them. -/
def astg (c : Dev nD) : Vec F S1024x512 .bf16 :=
  (win0_0.blk (0 : Fin 1)).view.read (Elt F) ((s₀ m ρ).mem ((c : Thread nD τ).loc main_arg0))
def bstg (c : Dev nD) : Vec F S512x1024 .bf16 :=
  (win0_1.blk (0 : Fin 1)).view.read (Elt F) ((s₀ m ρ).mem ((c : Thread nD τ).loc main_arg1))

/-- Each device's product. -/
def prods (c : Dev nD) : OB F := prod (astg m ρ c) (bstg m ρ c)

/-- What a device starts with: its ghost state, its credit, the levels. -/
def start (c : Dev nD) : sProp 𝕄 :=
  iprop(G' (prods m ρ) c ∗ (cred (tallyAt (barCell c) () 3) ∗ bigSep Finset.univ (fun p : Fin 6 => bigSep Finset.univ fun k : Fin 6 => cred (tallyAt (rcvCell p k c) () (crd (nr p k.val)))))
    ∗ levAts L lv)

/-- The two scratch buffers, contents not recorded. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scr c)
/-- After the body: every semaphore at zero. -/
def Φ₁ (c : Dev nD) : sProp 𝕄 :=
  iprop(semVal (barCell c) 0 ∗ Pipeline.ownSems0 (Ix := Unit) (Name := ℕ) (U := UU) (Lvl := ℕ) (Val := Elt F) (τ := τ) osem c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => astg m ρ c
    | ⟨1, _⟩ => bstg m ρ c
    | ⟨2, _⟩ => outs (prods m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp (MT nD τ sig Unit (Elt F) ℕ UU ℕ)) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (astg m ρ c) ∗ stg c cc0_stg1_0 (bstg m ρ c) ∗ stg c cc0_stg2_0 (outs (prods m ρ)))

theorem before_a (c : Dev nD) (d) : (dats m ρ 0 c).before (0 : Fin 3) t0_0 d = astg m ρ c := by
  unfold Dat.before; rw [if_pos (fetch0_0 t0_0)]; rfl
theorem before_b (c : Dev nD) (d) : (dats m ρ 0 c).before (1 : Fin 3) t0_0 d = bstg m ρ c := by
  unfold Dat.before; rw [if_pos (fetch0_1 t0_0)]; rfl

/-- The end of the body gives back what the pipeline asks for. -/
theorem post_intro (K : Dev nD × Option (Fin 72) → ℕ) (c : Dev nD) :
    St (prods m ρ) K iprop(semVal (barCell c) 0 ∗ inp c (astg m ρ c) (bstg m ρ c) (bstg m ρ c)) ![25, 25, 25, 25, 25, 25] c ⊢ bodyPost m ρ c := by
  unfold St bodyPost Φ₁ scr inp Dat.owesAt Pipeline.owesWithin
  rw [owed_last, show (dats m ρ 0 c).owed t0_0.succ = 0 from rfl]
  iintro ⟨HP, ⟨%W, HO⟩, -, -, HB, Ha, Hb, Hg⟩
  ihave HP := (parts_last (prods m ρ) c) $$ HP
  icases HP with ⟨HS, HL, Hout⟩
  isplitl [HB HS HL Hg]
  · isplitl [HB]; · iexact HB
    isplitl [HS]; · iexact HS
    isplitl [Hg]; · iexists (bstg m ρ c); iexact Hg
    iexact HL
  isplitl [HO]
  · iexists W
    isplitr; · ipureintro; exact fun _ _ => Or.inl trivial
    iexact HO
  isplitl [Ha]
  · iexists (astg m ρ c); isplitr; · (ipureintro; rfl)
    iexact Ha
  isplitl [Hb]
  · iexists (bstg m ρ c); isplitr; · (ipureintro; rfl)
    iexact Hb
  iexists (outs (prods m ρ)); isplitr; · (ipureintro; rfl)
  iexact Hout

set_option maxRecDepth 65536 in
theorem sound_body (c : Dev nD) : bodyPre m ρ c ⊢ WP c (cc0_body aM (Memref.isWhole_whole _) bM (Memref.isWhole_whole _) oM (Memref.isWhole_whole _)
      gM (Memref.isWhole_whole _) rM (Memref.isWhole_whole _) cc0_scratch2 cc0_scratch3) (fun _ => bodyPost m ρ c) := by
  unfold bodyPre Φ₀ start G' scr Dat.owesAt Pipeline.owesWithin
  rw [show (dats m ρ 0 c).owed t0_0.castSucc = O₀ c from rfl]
  iintro ⟨⟨⟨⟨%K, HG⟩, Hcr, HL⟩, ⟨%g, Hg⟩, ⟨%r, Hr⟩⟩, ⟨%W, -, HO⟩, ⟨%d0, %fa, %ha, Ha⟩, ⟨%d1, %fb, %hb, Hb⟩, ⟨%d2, %fo, -, Ho⟩⟩
  rw [before_a] at ha
  rw [before_b] at hb
  subst ha hb
  iapply ((pre_intro (prods m ρ) K c (astg m ρ c) (bstg m ρ c) g fo r W).trans (run_body (bands_prod (astg m ρ c) (bstg m ρ c)) (post_intro m ρ K c)))
  isplitl [HG]; · iexact HG
  isplitl [Hcr]; · iexact Hcr
  isplitl [HL]; · iexact HL
  isplitl [Ha Hb Hg]
  · unfold inp
    isplitl [Ha]; · iexact Ha
    isplitl [Hb]; · iexact Hb
    iexact Hg
  isplitl [Hr]; · iexact Hr
  isplitl [Ho]; · iexact Ho
  iexact HO

set_option maxRecDepth 65536 in
theorem body_obligation (c : Dev nD) : BodyObligation (dats (F := F) m ρ 0 c) (defs₀ (F := F)) Variants.none () Set.univ := fun t => by
  rw [fin_N0 t]
  rw [bigSep_W, bigSep_W]
  simp only [owns_whole_eq]
  exact sound_body m ρ c

/-! ## The side conditions of the launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scr
  iintro H
  iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, every weakly fair execution on the eight devices terminates, with each device's
arrays at the contents computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prods m ρ)) (G' := G' (prods m ρ)) (u₀ := u₀)
    (hu₀ := by
      unfold u₀
      iintro Hu
      ihave H := (ownU_pair _ _) $$ Hu
      icases H with ⟨HP, HX⟩
      imod (fund_ring (prods m ρ)) $$ HX with HG
      imodintro
      isplitl [HP] <;> iassumption)
    (hglob := glob (prods m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run are what they were. -/
theorem finalA_a (c : Dev nD) : finalA m ρ c (0 : Fin 3) = m ((c : Thread nD τ).loc main_arg0) := (dats (F := F) m ρ 0 c).arrAt_in (0 : Fin 3) rfl _
theorem finalA_b (c : Dev nD) : finalA m ρ c (1 : Fin 3) = m ((c : Thread nD τ).loc main_arg1) := (dats (F := F) m ρ 0 c).arrAt_in (1 : Fin 3) rfl _

end Cert.AllReduce

end
-- ==== Proof.Value.lean ====
/-
The value of the result at exact arithmetic: the reference program's.
-/
module

public import proofs.«01_k».proof.Proof.Launch
public import proofs.«01_k».proof.Proof.Gen.ReferenceIdeal.Run
public import Idealize.ShloMosaic.Lib.Pointwise
public import Idealize.ShloMosaic.Lib.Pipeline.ValueKit.Acc

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The sum over the devices -/

/-- The devices whose products are in device `c`'s running sum for part `p` after `t` steps. -/
def devs (p : Fin 6) : ℕ → Dev nD → Finset (Dev nD)
  | 0, c => {c}
  | t + 1, c => devs p t c ∪ devs p t (pr p t c)

theorem devs_disj : ∀ (p : Fin 6) (t : Fin 3) (c : Dev nD), Disjoint (devs p t.val c) (devs p t.val (pr p t.val c)) := by decide +kernel
theorem devs_all : ∀ (p : Fin 6) (c : Dev nD), devs p 3 c = Finset.univ := by decide +kernel

theorem acc_sum (X : Dev nD → OB Ideal) (p : Fin 6) (i : S1024x1024.Idx) : ∀ (t : ℕ) (c : Dev nD), t ≤ 3 → (acc X p t c i : EReal) = ∑ d ∈ devs p t c, (X d i : EReal)
  | 0, c, _ => (Finset.sum_singleton _ _).symm
  | t + 1, c, h => by
    show (acc X p t c i : EReal) + acc X p t (pr p t c) i = ∑ d ∈ devs p t c ∪ devs p t (pr p t c), (X d i : EReal)
    rw [Finset.sum_union (devs_disj p ⟨t, h⟩ c), acc_sum X p i t c (by omega), acc_sum X p i t _ (by omega)]

theorem outs_apply (X : Dev nD → OB Ideal) (i : S1024x1024.Idx) :
    outs X i = FloatOps.maximumf (F := Ideal) (φ := .bf16) (∑ d, (X d i : EReal) : EReal) (FloatOps.ofBits .bf16 0x0000#16) := by
  unfold outs res relu
  rw [acc_sum X _ i 3 _ (le_refl 3), devs_all]

/-! ## A device's product -/

theorem rows_apply {n r : ℕ} (inb) (a : Vec Ideal S1024x512 .bf16) (j : (⟨2, ![n, 512]⟩ : Shape).Idx) (x : Fin 1024) (hx : x.val = r + (j 0).val) :
    rowsA ![r, 0] ![n, 512] inb a j = a (ValueIdx.ix2 x (j 1 : Fin 512)) := by
  unfold rowsA
  rw [View.read_apply]
  refine congrArg a (ix2_of_val _ _ _ ?_ ?_)
  · show r + 1 * (j 0).val = x.val
    omega
  · show 0 + 1 * (j 1).val = (j 1).val
    omega

theorem prod_apply (a : Vec Ideal S1024x512 .bf16) (b : Vec Ideal S512x1024 .bf16) (i : S1024x1024.Idx) :
    (prod a b i : EReal) = ∑ k : Fin 512, (a (ValueIdx.ix2 (i 0 : Fin 1024) k) : EReal) * (b (ValueIdx.ix2 k (i 1 : Fin 1024)) : EReal) := by
  unfold prod
  split
  · next h =>
    unfold k0_pay3 k0_pay2
    pointwise
    refine Finset.sum_congr rfl fun k _ => congrArg₂ _ ?_ rfl
    exact rows_apply _ a _ (i 0) (Nat.zero_add _).symm
  · split
    · next h h' =>
      unfold k0_pay4
      pointwise
      refine Finset.sum_congr rfl fun k _ => congrArg₂ _ ?_ rfl
      exact rows_apply _ a _ (i 0) (by show (i 0).val = 384 + ((i 0).val - 384); omega)
    · next h h' =>
      unfold k0_pay5
      pointwise
      refine Finset.sum_congr rfl fun k _ => congrArg₂ _ ?_ rfl
      exact rows_apply _ a _ (i 0) (by show (i 0).val = 768 + ((i 0).val - 768); omega)

/-! ## The reference -/

/-- What the reference program computes. -/
abbrev refOut (A : FVec Ideal Cert.ReferenceIdeal.S1024x4096 .bf16) (B : FVec Ideal Cert.ReferenceIdeal.S4096x1024 .bf16) : FVec Ideal Cert.ReferenceIdeal.S1024x1024 .bf16 :=
  maximumf (truncf .bf16 (Host.dotGeneral (φ₁ := .bf16) (φ₂ := .bf16) Cert.ReferenceIdeal.dot_S1024x4096_S4096x1024_S1024x1024_1_0_0_1_n_n none A B) Cert.ReferenceIdeal.Gen.bitsLt_bf16_f32)
    (broadcastInDim Cert.ReferenceIdeal.S1024x1024 ![] Cert.ReferenceIdeal.Gen.bcast_S_S1024x1024 (constant Cert.ReferenceIdeal.S_ .bf16 0x0000#16))

theorem ref_apply (A : FVec Ideal Cert.ReferenceIdeal.S1024x4096 .bf16) (B : FVec Ideal Cert.ReferenceIdeal.S4096x1024 .bf16) (i : S1024x1024.Idx) :
    refOut A B i = FloatOps.maximumf (F := Ideal) (φ := .bf16) (∑ k : Fin 4096, (A (ValueIdx.ix2 (i 0 : Fin 1024) k) : EReal) * (B (ValueIdx.ix2 k (i 1 : Fin 1024)) : EReal) : EReal) (FloatOps.ofBits .bf16 0x0000#16) := by
  unfold refOut
  pointwise
  rfl

/-- Device `c`'s blocks of the two arrays. -/
abbrev blkA (A : FVec Ideal Cert.ReferenceIdeal.S1024x4096 .bf16) (c : Dev nD) : Vec Ideal S1024x512 .bf16 := Layout.block ⟨2, ![1024, 512]⟩ ⟨2, ![1024, 4096]⟩ 1 8 c A
abbrev blkB (B : FVec Ideal Cert.ReferenceIdeal.S4096x1024 .bf16) (c : Dev nD) : Vec Ideal S512x1024 .bf16 := Layout.block ⟨2, ![512, 1024]⟩ ⟨2, ![4096, 1024]⟩ 0 8 c B

theorem blkA_apply (A : FVec Ideal Cert.ReferenceIdeal.S1024x4096 .bf16) (c : Dev nD) (x : Fin 1024) (k : Fin 512) (h : c.val * 512 + k.val < 4096) :
    blkA A c (ValueIdx.ix2 x k) = A (ValueIdx.ix2 x (⟨c.val * 512 + k.val, h⟩ : Fin 4096)) := by
  unfold blkA
  rw [Layout.block_apply]
  exact congrArg A (ix2_of_val _ _ _ rfl rfl)
theorem blkB_apply (B : FVec Ideal Cert.ReferenceIdeal.S4096x1024 .bf16) (c : Dev nD) (k : Fin 512) (y : Fin 1024) (h : c.val * 512 + k.val < 4096) :
    blkB B c (ValueIdx.ix2 k y) = B (ValueIdx.ix2 (⟨c.val * 512 + k.val, h⟩ : Fin 4096) y) := by
  unfold blkB
  rw [Layout.block_apply]
  exact congrArg B (ix2_of_val _ _ _ rfl rfl)

/-- The products of the eight devices' blocks add up to the product of the arrays. -/
theorem outs_eq_ref (A : FVec Ideal Cert.ReferenceIdeal.S1024x4096 .bf16) (B : FVec Ideal Cert.ReferenceIdeal.S4096x1024 .bf16) :
    outs (fun c => prod (blkA A c) (blkB B c)) = refOut A B := by
  funext i
  rw [outs_apply, ref_apply]
  refine congrArg (fun s : EReal => FloatOps.maximumf (F := Ideal) (φ := .bf16) s (FloatOps.ofBits .bf16 0x0000#16)) ?_
  rw [← Fin.sum_mul_add_fin (n := 512) 8 (fun k : Fin 4096 => (A (ValueIdx.ix2 (i 0 : Fin 1024) k) : EReal) * (B (ValueIdx.ix2 k (i 1 : Fin 1024)) : EReal)) rfl]
  refine Finset.sum_congr rfl fun c _ => (prod_apply _ _ i).trans (Finset.sum_congr rfl fun k _ => ?_)
  have hc : c.val < 8 := c.isLt
  have hk := k.isLt
  exact congrArg₂ (fun x y : EReal => x * y) (blkA_apply A c _ k (by omega)) (blkB_apply B c k _ (by omega))

/-! ## The contents of the result array -/

section
variable (m : (ℓ : Loc nD τ sig) → Buf (Elt F) ℓ) (ρ : Dev nD → PrngReg) (c : Dev nD)

theorem astg_eq : astg m ρ c = m ((c : Thread nD τ).loc main_arg0) :=
  Memref.read_access_unit_zero (Elt F) main_arg0 (off := fun a => (win0_0.index (0 : Fin 1)) a * main_arg0.ty.shape.size a) (funext fun a => by fin_cases a <;> decide) (fun a => by fin_cases a <;> decide) _
theorem bstg_eq : bstg m ρ c = m ((c : Thread nD τ).loc main_arg1) :=
  Memref.read_access_unit_zero (Elt F) main_arg1 (off := fun a => (win0_1.index (0 : Fin 1)) a * main_arg1.ty.shape.size a) (funext fun a => by fin_cases a <;> decide) (fun a => by fin_cases a <;> decide) _

theorem finalA_o : finalA m ρ c (2 : Fin 3) = outs fun d => prod (m ((d : Thread nD τ).loc main_arg0)) (m ((d : Thread nD τ).loc main_arg1)) := by
  have ho : (win0_2.blk (0 : Fin 1)).view.read (Elt F) (finalA m ρ c (2 : Fin 3)) = outs (prods m ρ) := by
    unfold finalA
    rw [show cfg0.N = ((0 : Fin 1) : Fin cfg0.N).val + 1 from rfl, (dats m ρ 0 c).arrAt_succ (2 : Fin 3) (0 : Fin 1), show (cfg0.win (2 : Fin 3)).flush (0 : Fin 1) = true from by decide, if_pos rfl]
    exact View.read_write_univ _ _
  have hr := Memref.read_access_unit_zero (Elt F) main_v1 (off := fun a => (win0_2.index (0 : Fin 1)) a * main_v1.ty.shape.size a) (funext fun a => by fin_cases a <;> decide) (fun a => by fin_cases a <;> decide) (finalA m ρ c (2 : Fin 3))
  refine (hr.symm.trans ho).trans (congrArg outs (funext fun d => ?_))
  unfold prods
  rw [astg_eq, bstg_eq]

end

end Cert.AllReduce

end
-- ==== Proof.lean ====
/-
The certificate: both programs run, leave their arguments alone and every semaphore at zero, and over the reals
each device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem
open Idealize.ShloMosaic.TcCoe
open Cert.AllReduce

/-- What a run of the kernel establishes on every device, for any float values: the result array holds the relu of the
    sum of the devices' products, both arguments are as they were, every semaphore is at zero. -/
theorem run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem (c.tc.loc Cert.KernelIdeal.main_v1) = outs (fun d => prod (m (d.tc.loc Cert.KernelIdeal.main_arg0)) (m (d.tc.loc Cert.KernelIdeal.main_arg1)))
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
      ∧ r.2.sem = fun _ => 0 :=
  (θ_run Cert.KernelIdeal.defs _ _).mono
    (fun _ h => ⟨fun c => ⟨(h.1 c (2 : Fin 3)).trans (finalA_o m ρ c), (h.1 c (0 : Fin 3)).trans (finalA_a m ρ c),
      (h.1 c (1 : Fin 3)).trans (finalA_b m ρ c)⟩, h.2⟩)
    (run_main m ρ)

/-- The part of `run` that says nothing of the result, for any float values. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
      ∧ r.2.sem = fun _ => 0 :=
  (θ_run Cert.KernelIdeal.defs _ _).mono (fun _ h => ⟨fun c => (h.1 c).2, h.2⟩) (run m ρ)

/-- The two programs have the same text: the same body of the call, -/
theorem body_eq : @Cert.Kernel.cc0_body Bits _ _ = @Cert.KernelIdeal.cc0_body Bits _ _ := rfl

/-- under the one label that there is. -/
theorem bodies_eq : @Cert.Kernel.defs₀ Bits _ _ = @Cert.KernelIdeal.defs₀ Bits _ _ := by
  unfold Cert.Kernel.defs₀ Cert.KernelIdeal.defs₀
  refine congrArg Defs.onTc (funext fun l => funext fun x => ?_)
  obtain ⟨l, hl⟩ := l
  match l, hl, x with
  | 0, hl, (t, s) =>
    show Cert.Kernel.cc0_body (F := Bits) _ _ _ _ _ _ _ _ _ _ _ _ = Cert.KernelIdeal.cc0_body (F := Bits) _ _ _ _ _ _ _ _ _ _ _ _
    rw [body_eq]
  | n + 1, hl, x => exact absurd hl (by show ¬ n + 1 < 1; omega)

theorem defs_eq : @Cert.Kernel.defs Bits _ _ = @Cert.KernelIdeal.defs Bits _ _ := congrArg (Pipeline.defs _) bodies_eq

/-- So the kernel's frame is the run over bit patterns. -/
theorem frame_kernel : Cert.quiescent_Kernel := fun m ρ _ => by
  rw [defs_eq]
  exact frame (F := Bits) m ρ

theorem frame_kernelIdeal : Cert.quiescent_KernelIdeal := fun m ρ _ => frame (F := Ideal) m ρ

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From blocks of two whole arrays every device ends with what the reference computes of the whole arrays. -/
theorem algebraic : Cert.algebraic_KernelIdeal_ReferenceIdeal := fun m ρ m' ρ' _ hb =>
  ⟨_, (θ_run Cert.KernelIdeal.defs _ _).mono
      (fun _ h c => ⟨(h.1 c).1.trans ((congrArg outs (funext fun d => congrArg₂ prod (hb d).1 (hb d).2)).trans (outs_eq_ref _ _)), (h.1 c).2⟩)
      (run (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
